-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Inctx (m : (ℓ : Loc Cert.Inctx.nD Cert.Inctx.τ Cert.Inctx.sig) → Buf (Elt Bits) ℓ) : Prop :=
  True

def Pre_InctxIdeal (m : (ℓ : Loc Cert.InctxIdeal.nD Cert.InctxIdeal.τ Cert.InctxIdeal.sig) → Buf (Elt Ideal) ℓ) : Prop :=
  True

def Pre_InctxRefIdeal (m : (ℓ : Loc Cert.InctxRefIdeal.nD Cert.InctxRefIdeal.τ Cert.InctxRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Inctx [hInctx : Cert.Inctx.Facts] : Prop :=
  ∀ (m : (ℓ : Loc Cert.Inctx.nD Cert.Inctx.τ Cert.Inctx.sig) → Buf (Elt Bits) ℓ) (g : Dev Cert.Inctx.nD → PrngReg), Pre_Inctx m →
    θ_run (Cert.Inctx.defs (F := Bits)) (onTc (τ := Cert.Inctx.τ) (Cert.Inctx.main (F := Bits))) ⟨m, fun _ => 0, g⟩ (fun r => (∀ c : Dev Cert.Inctx.nD,
      r.2.mem ((c.tc : Thread Cert.Inctx.nD Cert.Inctx.τ).loc Cert.Inctx.main_arg0) = m ((c.tc : Thread Cert.Inctx.nD Cert.Inctx.τ).loc Cert.Inctx.main_arg0)
      ∧ r.2.mem ((c.tc : Thread Cert.Inctx.nD Cert.Inctx.τ).loc Cert.Inctx.main_arg1) = m ((c.tc : Thread Cert.Inctx.nD Cert.Inctx.τ).loc Cert.Inctx.main_arg1)
      ∧ r.2.mem ((c.tc : Thread Cert.Inctx.nD Cert.Inctx.τ).loc Cert.Inctx.main_arg2) = m ((c.tc : Thread Cert.Inctx.nD Cert.Inctx.τ).loc Cert.Inctx.main_arg2))
      ∧ r.2.sem = fun _ => 0)

def quiescent_InctxIdeal [hInctxIdeal : Cert.InctxIdeal.Facts] : Prop :=
  ∀ (m : (ℓ : Loc Cert.InctxIdeal.nD Cert.InctxIdeal.τ Cert.InctxIdeal.sig) → Buf (Elt Ideal) ℓ) (g : Dev Cert.InctxIdeal.nD → PrngReg), Pre_InctxIdeal m →
    θ_run (Cert.InctxIdeal.defs (F := Ideal)) (onTc (τ := Cert.InctxIdeal.τ) (Cert.InctxIdeal.main (F := Ideal))) ⟨m, fun _ => 0, g⟩ (fun r => (∀ c : Dev Cert.InctxIdeal.nD,
      r.2.mem ((c.tc : Thread Cert.InctxIdeal.nD Cert.InctxIdeal.τ).loc Cert.InctxIdeal.main_arg0) = m ((c.tc : Thread Cert.InctxIdeal.nD Cert.InctxIdeal.τ).loc Cert.InctxIdeal.main_arg0)
      ∧ r.2.mem ((c.tc : Thread Cert.InctxIdeal.nD Cert.InctxIdeal.τ).loc Cert.InctxIdeal.main_arg1) = m ((c.tc : Thread Cert.InctxIdeal.nD Cert.InctxIdeal.τ).loc Cert.InctxIdeal.main_arg1)
      ∧ r.2.mem ((c.tc : Thread Cert.InctxIdeal.nD Cert.InctxIdeal.τ).loc Cert.InctxIdeal.main_arg2) = m ((c.tc : Thread Cert.InctxIdeal.nD Cert.InctxIdeal.τ).loc Cert.InctxIdeal.main_arg2))
      ∧ r.2.sem = fun _ => 0)

def quiescent_InctxRefIdeal [hInctxRefIdeal : Cert.InctxRefIdeal.Facts] : Prop :=
  ∀ (m : (ℓ : Loc Cert.InctxRefIdeal.nD Cert.InctxRefIdeal.τ Cert.InctxRefIdeal.sig) → Buf (Elt Ideal) ℓ) (g : Dev Cert.InctxRefIdeal.nD → PrngReg), Pre_InctxRefIdeal m →
    θ_run (Cert.InctxRefIdeal.defs (F := Ideal)) (onTc (τ := Cert.InctxRefIdeal.τ) (Cert.InctxRefIdeal.main (F := Ideal))) ⟨m, fun _ => 0, g⟩ (fun r => (∀ c : Dev Cert.InctxRefIdeal.nD,
      r.2.mem ((c.tc : Thread Cert.InctxRefIdeal.nD Cert.InctxRefIdeal.τ).loc Cert.InctxRefIdeal.main_arg0) = m ((c.tc : Thread Cert.InctxRefIdeal.nD Cert.InctxRefIdeal.τ).loc Cert.InctxRefIdeal.main_arg0)
      ∧ r.2.mem ((c.tc : Thread Cert.InctxRefIdeal.nD Cert.InctxRefIdeal.τ).loc Cert.InctxRefIdeal.main_arg1) = m ((c.tc : Thread Cert.InctxRefIdeal.nD Cert.InctxRefIdeal.τ).loc Cert.InctxRefIdeal.main_arg1)
      ∧ r.2.mem ((c.tc : Thread Cert.InctxRefIdeal.nD Cert.InctxRefIdeal.τ).loc Cert.InctxRefIdeal.main_arg2) = m ((c.tc : Thread Cert.InctxRefIdeal.nD Cert.InctxRefIdeal.τ).loc Cert.InctxRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v15)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v15) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v106) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v63) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v44_0)) (v1 : (c : Dev Cert.InprojIdeal.nD) → Buf (Elt Ideal) ((c.tc : Thread Cert.InprojIdeal.nD Cert.InprojIdeal.τ).loc Cert.InprojIdeal.main_v44_1)) (v2 : (c : Dev Cert.InprojIdeal.nD) → Buf (Elt Ideal) ((c.tc : Thread Cert.InprojIdeal.nD Cert.InprojIdeal.τ).loc Cert.InprojIdeal.main_v44_2)) (v3 : (c : Dev Cert.InprojIdeal.nD) → Buf (Elt Ideal) ((c.tc : Thread Cert.InprojIdeal.nD Cert.InprojIdeal.τ).loc Cert.InprojIdeal.main_v44_3)) (v4 : (c : Dev Cert.InprojIdeal.nD) → Buf (Elt Ideal) ((c.tc : Thread Cert.InprojIdeal.nD Cert.InprojIdeal.τ).loc Cert.InprojIdeal.main_v44_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v44_0) = v0 c
          ∧ r.2.mem ((c.tc : Thread Cert.InprojIdeal.nD Cert.InprojIdeal.τ).loc Cert.InprojIdeal.main_v44_1) = v1 c
          ∧ r.2.mem ((c.tc : Thread Cert.InprojIdeal.nD Cert.InprojIdeal.τ).loc Cert.InprojIdeal.main_v44_2) = v2 c
          ∧ r.2.mem ((c.tc : Thread Cert.InprojIdeal.nD Cert.InprojIdeal.τ).loc Cert.InprojIdeal.main_v44_3) = v3 c
          ∧ r.2.mem ((c.tc : Thread Cert.InprojIdeal.nD Cert.InprojIdeal.τ).loc Cert.InprojIdeal.main_v44_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v122) = v0 c
          ∧ r.2.mem ((c.tc : Thread Cert.InprojRefIdeal.nD Cert.InprojRefIdeal.τ).loc Cert.InprojRefIdeal.main_v124) = v1 c
          ∧ r.2.mem ((c.tc : Thread Cert.InprojRefIdeal.nD Cert.InprojRefIdeal.τ).loc Cert.InprojRefIdeal.main_v125) = v2 c
          ∧ r.2.mem ((c.tc : Thread Cert.InprojRefIdeal.nD Cert.InprojRefIdeal.τ).loc Cert.InprojRefIdeal.main_v65) = v3 c
          ∧ r.2.mem ((c.tc : Thread Cert.InprojRefIdeal.nD Cert.InprojRefIdeal.τ).loc Cert.InprojRefIdeal.main_v139) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Inctx_InctxIdeal : Prop :=
  True

def algebraic_InctxIdeal_InctxRefIdeal [hInctxIdeal : Cert.InctxIdeal.Facts] [hInctxRefIdeal : Cert.InctxRefIdeal.Facts] : Prop :=
  ∀ (m : (ℓ : Loc Cert.InctxIdeal.nD Cert.InctxIdeal.τ Cert.InctxIdeal.sig) → Buf (Elt Ideal) ℓ) (g : Dev Cert.InctxIdeal.nD → PrngReg)
    (m' : (ℓ : Loc Cert.InctxRefIdeal.nD Cert.InctxRefIdeal.τ Cert.InctxRefIdeal.sig) → Buf (Elt Ideal) ℓ) (g' : Dev Cert.InctxRefIdeal.nD → PrngReg), Pre_InctxIdeal m →
    (∀ c : Dev Cert.InctxIdeal.nD,
      m' ((c.tc : Thread Cert.InctxRefIdeal.nD Cert.InctxRefIdeal.τ).loc Cert.InctxRefIdeal.main_arg0) = m ((c.tc : Thread Cert.InctxIdeal.nD Cert.InctxIdeal.τ).loc Cert.InctxIdeal.main_arg0)
      ∧ m' ((c.tc : Thread Cert.InctxRefIdeal.nD Cert.InctxRefIdeal.τ).loc Cert.InctxRefIdeal.main_arg1) = m ((c.tc : Thread Cert.InctxIdeal.nD Cert.InctxIdeal.τ).loc Cert.InctxIdeal.main_arg1)
      ∧ m' ((c.tc : Thread Cert.InctxRefIdeal.nD Cert.InctxRefIdeal.τ).loc Cert.InctxRefIdeal.main_arg2) = m ((c.tc : Thread Cert.InctxIdeal.nD Cert.InctxIdeal.τ).loc Cert.InctxIdeal.main_arg2)) →
    ∃ (v0 : (c : Dev Cert.InctxIdeal.nD) → Buf (Elt Ideal) ((c.tc : Thread Cert.InctxIdeal.nD Cert.InctxIdeal.τ).loc Cert.InctxIdeal.main_v2_0)) (v1 : (c : Dev Cert.InctxIdeal.nD) → Buf (Elt Ideal) ((c.tc : Thread Cert.InctxIdeal.nD Cert.InctxIdeal.τ).loc Cert.InctxIdeal.main_v2_1)) (v2 : (c : Dev Cert.InctxIdeal.nD) → Buf (Elt Ideal) ((c.tc : Thread Cert.InctxIdeal.nD Cert.InctxIdeal.τ).loc Cert.InctxIdeal.main_v2_2)),
      θ_run (Cert.InctxIdeal.defs (F := Ideal)) (onTc (τ := Cert.InctxIdeal.τ) (Cert.InctxIdeal.main (F := Ideal))) ⟨m, fun _ => 0, g⟩ (fun r => ∀ c : Dev Cert.InctxIdeal.nD,
          r.2.mem ((c.tc : Thread Cert.InctxIdeal.nD Cert.InctxIdeal.τ).loc Cert.InctxIdeal.main_v2_0) = v0 c
          ∧ r.2.mem ((c.tc : Thread Cert.InctxIdeal.nD Cert.InctxIdeal.τ).loc Cert.InctxIdeal.main_v2_1) = v1 c
          ∧ r.2.mem ((c.tc : Thread Cert.InctxIdeal.nD Cert.InctxIdeal.τ).loc Cert.InctxIdeal.main_v2_2) = v2 c
          ∧ r.2.mem ((c.tc : Thread Cert.InctxIdeal.nD Cert.InctxIdeal.τ).loc Cert.InctxIdeal.main_arg0) = m ((c.tc : Thread Cert.InctxIdeal.nD Cert.InctxIdeal.τ).loc Cert.InctxIdeal.main_arg0)
          ∧ r.2.mem ((c.tc : Thread Cert.InctxIdeal.nD Cert.InctxIdeal.τ).loc Cert.InctxIdeal.main_arg1) = m ((c.tc : Thread Cert.InctxIdeal.nD Cert.InctxIdeal.τ).loc Cert.InctxIdeal.main_arg1)
          ∧ r.2.mem ((c.tc : Thread Cert.InctxIdeal.nD Cert.InctxIdeal.τ).loc Cert.InctxIdeal.main_arg2) = m ((c.tc : Thread Cert.InctxIdeal.nD Cert.InctxIdeal.τ).loc Cert.InctxIdeal.main_arg2))
      ∧ θ_run (Cert.InctxRefIdeal.defs (F := Ideal)) (onTc (τ := Cert.InctxRefIdeal.τ) (Cert.InctxRefIdeal.main (F := Ideal))) ⟨m', fun _ => 0, g'⟩ (fun r => ∀ c : Dev Cert.InctxRefIdeal.nD,
          r.2.mem ((c.tc : Thread Cert.InctxRefIdeal.nD Cert.InctxRefIdeal.τ).loc Cert.InctxRefIdeal.main_v42) = v0 c
          ∧ r.2.mem ((c.tc : Thread Cert.InctxRefIdeal.nD Cert.InctxRefIdeal.τ).loc Cert.InctxRefIdeal.main_v43) = v1 c
          ∧ r.2.mem ((c.tc : Thread Cert.InctxRefIdeal.nD Cert.InctxRefIdeal.τ).loc Cert.InctxRefIdeal.main_v40) = v2 c
          ∧ r.2.mem ((c.tc : Thread Cert.InctxRefIdeal.nD Cert.InctxRefIdeal.τ).loc Cert.InctxRefIdeal.main_arg0) = m' ((c.tc : Thread Cert.InctxRefIdeal.nD Cert.InctxRefIdeal.τ).loc Cert.InctxRefIdeal.main_arg0)
          ∧ r.2.mem ((c.tc : Thread Cert.InctxRefIdeal.nD Cert.InctxRefIdeal.τ).loc Cert.InctxRefIdeal.main_arg1) = m' ((c.tc : Thread Cert.InctxRefIdeal.nD Cert.InctxRefIdeal.τ).loc Cert.InctxRefIdeal.main_arg1)
          ∧ r.2.mem ((c.tc : Thread Cert.InctxRefIdeal.nD Cert.InctxRefIdeal.τ).loc Cert.InctxRefIdeal.main_arg2) = m' ((c.tc : Thread Cert.InctxRefIdeal.nD Cert.InctxRefIdeal.τ).loc Cert.InctxRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v6) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def Claim : Prop :=
  ∃ (hTail : Cert.Tail.Facts) (hTailIdeal : Cert.TailIdeal.Facts) (hTailRefIdeal : Cert.TailRefIdeal.Facts) (hAttn : Cert.Attn.Facts) (hAttnIdeal : Cert.AttnIdeal.Facts) (hAttnRefIdeal : Cert.AttnRefIdeal.Facts) (hInproj : Cert.Inproj.Facts) (hInprojIdeal : Cert.InprojIdeal.Facts) (hInprojRefIdeal : Cert.InprojRefIdeal.Facts) (hInctx : Cert.Inctx.Facts) (hInctxIdeal : Cert.InctxIdeal.Facts) (hInctxRefIdeal : Cert.InctxRefIdeal.Facts) (hMod : Cert.Mod.Facts) (hModIdeal : Cert.ModIdeal.Facts) (hModRefIdeal : Cert.ModRefIdeal.Facts) (hPre_finite_attn : Cert.Pre_finite_attn.Facts),
    quiescent_Tail (hTail := hTail)
    ∧ quiescent_TailIdeal (hTailIdeal := hTailIdeal)
    ∧ quiescent_TailRefIdeal (hTailRefIdeal := hTailRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Inproj (hInproj := hInproj)
    ∧ quiescent_InprojIdeal (hInprojIdeal := hInprojIdeal)
    ∧ quiescent_InprojRefIdeal (hInprojRefIdeal := hInprojRefIdeal)
    ∧ quiescent_Inctx (hInctx := hInctx)
    ∧ quiescent_InctxIdeal (hInctxIdeal := hInctxIdeal)
    ∧ quiescent_InctxRefIdeal (hInctxRefIdeal := hInctxRefIdeal)
    ∧ quiescent_Mod (hMod := hMod)
    ∧ quiescent_ModIdeal (hModIdeal := hModIdeal)
    ∧ quiescent_ModRefIdeal (hModRefIdeal := hModRefIdeal)
    ∧ preserves_Tail_TailIdeal
    ∧ algebraic_TailIdeal_TailRefIdeal (hTailIdeal := hTailIdeal) (hTailRefIdeal := hTailRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Inproj_InprojIdeal
    ∧ algebraic_InprojIdeal_InprojRefIdeal (hInprojIdeal := hInprojIdeal) (hInprojRefIdeal := hInprojRefIdeal)
    ∧ preserves_Inctx_InctxIdeal
    ∧ algebraic_InctxIdeal_InctxRefIdeal (hInctxIdeal := hInctxIdeal) (hInctxRefIdeal := hInctxRefIdeal)
    ∧ preserves_Mod_ModIdeal
    ∧ algebraic_ModIdeal_ModRefIdeal (hModIdeal := hModIdeal) (hModRefIdeal := hModRefIdeal)
-- ==== Pre_finite_attn.lean ====
abbrev S1x2x64 : Shape := ⟨3, ![1, 2, 64]⟩
abbrev S1x128 : Shape := ⟨2, ![1, 128]⟩
abbrev S16x4096x512 : Shape := ⟨3, ![16, 4096, 512]⟩
abbrev S16x256x512 : Shape := ⟨3, ![16, 256, 512]⟩
abbrev S_ : Shape := ⟨0, ![]⟩

class Facts : Prop where
  bcast_S_S1x2x64 : S_.BroadcastsInDim S1x2x64 (![] : Fin 0 → Fin S1x2x64.rank)
  reducesTo_S1x2x64_S_d0_1_2 : S1x2x64.ReducesTo [0, 1, 2] S_
  h_S_ : 0 < S_.numel
  bcast_S_S16x4096x512 : S_.BroadcastsInDim S16x4096x512 (![] : Fin 0 → Fin S16x4096x512.rank)
  reducesTo_S16x4096x512_S_d0_1_2 : S16x4096x512.ReducesTo [0, 1, 2] S_
  bcast_S_S16x256x512 : S_.BroadcastsInDim S16x256x512 (![] : Fin 0 → Fin S16x256x512.rank)
  reducesTo_S16x256x512_S_d0_1_2 : S16x256x512.ReducesTo [0, 1, 2] S_

variable [Facts]

def fn_part1 {F : FTy → Type} [FloatOps F] (main_arg5 : FVec F S16x256x512 .bf16) (main_arg6 : FVec F S16x4096x512 .bf16) (main_arg7 : FVec F S16x256x512 .bf16) (main_v3 : IVec S_ 1) (main_v7 : IVec S_ 1) (main_v11 : IVec S_ 1) (main_v15 : IVec S_ 1) : IVec S_ 1 :=
  let main_v16 : FVec F S16x256x512 .bf16 := Host.absf main_arg5
  let main_cst_6 : FVec F S_ .bf16 := constant S_ .bf16 0x7F80#16
  let main_v17 : FVec F S16x256x512 .bf16 := broadcastInDim S16x256x512 ![] bcast_S_S16x256x512 main_cst_6
  let main_v18 : IVec S16x256x512 1 := cmpf .olt main_v16 main_v17
  let main_c_7 : IVec S_ 1 := constantI S_ 1 1#1
  let main_v19 : IVec S_ 1 := (fun x v => Host.reduce IntOp.andi x v reducesTo_S16x256x512_S_d0_1_2 h_S_) main_v18 main_c_7
  let main_v20 : FVec F S16x4096x512 .bf16 := Host.absf main_arg6
  let main_cst_8 : FVec F S_ .bf16 := constant S_ .bf16 0x7F80#16
  let main_v21 : FVec F S16x4096x512 .bf16 := broadcastInDim S16x4096x512 ![] bcast_S_S16x4096x512 main_cst_8
  let main_v22 : IVec S16x4096x512 1 := cmpf .olt main_v20 main_v21
  let main_c_9 : IVec S_ 1 := constantI S_ 1 1#1
  let main_v23 : IVec S_ 1 := (fun x v => Host.reduce IntOp.andi x v reducesTo_S16x4096x512_S_d0_1_2 h_S_) main_v22 main_c_9
  let main_v24 : FVec F S16x256x512 .bf16 := Host.absf main_arg7
  let main_cst_10 : FVec F S_ .bf16 := constant S_ .bf16 0x7F80#16
  let main_v25 : FVec F S16x256x512 .bf16 := broadcastInDim S16x256x512 ![] bcast_S_S16x256x512 main_cst_10
  let main_v26 : IVec S16x256x512 1 := cmpf .olt main_v24 main_v25
  let main_c_11 : IVec S_ 1 := constantI S_ 1 1#1
  let main_v27 : IVec S_ 1 := (fun x v => Host.reduce IntOp.andi x v reducesTo_S16x256x512_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S1x2x64 .f32) (main_arg1 : FVec F S1x2x64 .f32) (main_arg2 : FVec F S1x128 .f32) (main_arg3 : FVec F S16x4096x512 .bf16) (main_arg4 : FVec F S16x4096x512 .bf16) (main_arg5 : FVec F S16x256x512 .bf16) (main_arg6 : FVec F S16x4096x512 .bf16) (main_arg7 : FVec F S16x256x512 .bf16) : IVec S_ 1 :=
  let main_v0 : FVec F S1x2x64 .f32 := Host.absf main_arg0
  let main_cst : FVec F S_ .f32 := constant S_ .f32 0x7F800000#32
  let main_v1 : FVec F S1x2x64 .f32 := broadcastInDim S1x2x64 ![] bcast_S_S1x2x64 main_cst
  let main_v2 : IVec S1x2x64 1 := cmpf .olt main_v0 main_v1
  let main_c : IVec S_ 1 := constantI S_ 1 1#1
  let main_v3 : IVec S_ 1 := (fun x v => Host.reduce IntOp.andi x v reducesTo_S1x2x64_S_d0_1_2 h_S_) main_v2 main_c
  let main_v4 : FVec F S1x2x64 .f32 := Host.absf main_arg1
  let main_cst_0 : FVec F S_ .f32 := constant S_ .f32 0x7F800000#32
  let main_v5 : FVec F S1x2x64 .f32 := broadcastInDim S1x2x64 ![] bcast_S_S1x2x64 main_cst_0
  let main_v6 : IVec S1x2x64 1 := cmpf .olt main_v4 main_v5
  let main_c_1 : IVec S_ 1 := constantI S_ 1 1#1
  let main_v7 : IVec S_ 1 := (fun x v => Host.reduce IntOp.andi x v reducesTo_S1x2x64_S_d0_1_2 h_S_) main_v6 main_c_1
  let main_v8 : FVec F S16x4096x512 .bf16 := Host.absf main_arg3
  let main_cst_2 : FVec F S_ .bf16 := constant S_ .bf16 0x7F80#16
  let main_v9 : FVec F S16x4096x512 .bf16 := broadcastInDim S16x4096x512 ![] bcast_S_S16x4096x512 main_cst_2
  let main_v10 : IVec S16x4096x512 1 := cmpf .olt main_v8 main_v9
  let main_c_3 : IVec S_ 1 := constantI S_ 1 1#1
  let main_v11 : IVec S_ 1 := (fun x v => Host.reduce IntOp.andi x v reducesTo_S16x4096x512_S_d0_1_2 h_S_) main_v10 main_c_3
  let main_v12 : FVec F S16x4096x512 .bf16 := Host.absf main_arg4
  let main_cst_4 : FVec F S_ .bf16 := constant S_ .bf16 0x7F80#16
  let main_v13 : FVec F S16x4096x512 .bf16 := broadcastInDim S16x4096x512 ![] bcast_S_S16x4096x512 main_cst_4
  let main_v14 : IVec S16x4096x512 1 := cmpf .olt main_v12 main_v13
  let main_c_5 : IVec S_ 1 := constantI S_ 1 1#1
  let main_v15 : IVec S_ 1 := (fun x v => Host.reduce IntOp.andi x v reducesTo_S16x4096x512_S_d0_1_2 h_S_) main_v14 main_c_5
  fn_part1 (F := F) main_arg5 main_arg6 main_arg7 main_v3 main_v7 main_v11 main_v15
-- ==== Tail.lean ====
abbrev S16x4096x512 : Shape := ⟨3, ![16, 4096, 512]⟩
abbrev S16x4096x1024 : Shape := ⟨3, ![16, 4096, 1024]⟩
abbrev S24x6x1024 : Shape := ⟨3, ![24, 6, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S1024 : Shape := ⟨1, ![1024]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S1x256x512 : Shape := ⟨3, ![1, 256, 512]⟩
abbrev S1x256x1024 : Shape := ⟨3, ![1, 256, 1024]⟩
abbrev S1x6x1024 : Shape := ⟨3, ![1, 6, 1024]⟩
abbrev S256x512 : Shape := ⟨2, ![256, 512]⟩
abbrev S512x1024 : Shape := ⟨2, ![512, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 27
  | .vmem => 14
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x1024, .f32⟩
  | .hbm, ⟨3, _⟩ => ⟨S24x6x1024, .f32⟩
  | .hbm, ⟨4, _⟩ => ⟨S1x1024x1024, .f32⟩
  | .hbm, ⟨5, _⟩ => ⟨S1x1024x5632, .f32⟩
  | .hbm, ⟨6, _⟩ => ⟨S1x2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S4x1024, .f32⟩
  | .hbm, ⟨20, _⟩ => ⟨S1024x1024, .f32⟩
  | .hbm, ⟨21, _⟩ => ⟨S1024x1024, .bf16⟩
  | .hbm, ⟨22, _⟩ => ⟨S1024x5632, .f32⟩
  | .hbm, ⟨23, _⟩ => ⟨S1024x5632, .bf16⟩
  | .hbm, ⟨24, _⟩ => ⟨S2816x1024, .f32⟩
  | .hbm, ⟨25, _⟩ => ⟨S2816x1024, .bf16⟩
  | .hbm, ⟨26, _⟩ => ⟨S16x4096x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x1024, .f32⟩
  | .local _ .vmem, ⟨5, _⟩ => ⟨S1x256x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S1024x5632, .bf16⟩
  | .local _ .vmem, ⟨10, _⟩ => ⟨S2816x1024, .bf16⟩
  | .local _ .vmem, ⟨11, _⟩ => ⟨S4x1024, .f32⟩
  | .local _ .vmem, ⟨12, _⟩ => ⟨S1x256x1024, .f32⟩
  | .local _ .vmem, ⟨13, _⟩ => ⟨S1x256x1024, .f32⟩
  | _, _ => ⟨S16x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== TailRefIdeal.lean ====
abbrev S16x4096x512 : Shape := ⟨3, ![16, 4096, 512]⟩
abbrev S16x4096x1024 : Shape := ⟨3, ![16, 4096, 1024]⟩
abbrev S24x6x1024 : Shape := ⟨3, ![24, 6, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S16x6x1024 : Shape := ⟨3, ![16, 6, 1024]⟩
abbrev S16x1x6144 : Shape := ⟨3, ![16, 1, 6144]⟩
abbrev S16x1x1024 : Shape := ⟨3, ![16, 1, 1024]⟩
abbrev S1024x1024 : Shape := ⟨2, ![1024, 1024]⟩
abbrev S_ : Shape := ⟨0, ![]⟩
abbrev S1024 : Shape := ⟨1, ![1024]⟩
abbrev S16x4096 : Shape := ⟨2, ![16, 4096]⟩
abbrev S16x4096x1 : Shape := ⟨3, ![16, 4096, 1]⟩
abbrev S1x1x1024 : Shape := ⟨3, ![1, 1, 1024]⟩
abbrev S1024x5632 : Shape := ⟨2, ![1024, 5632]⟩
abbrev S2816x1024 : Shape := ⟨2, ![2816, 1024]⟩
abbrev S16x4096x5632 : Shape := ⟨3, ![16, 4096, 5632]⟩
abbrev S16x4096x2816 : Shape := ⟨3, ![16, 4096, 2816]⟩

abbrev nBuf : Space → Nat
  | .hbm => 144
  | .vmem => 0
  | .smem => 0
  | _ => 0

abbrev hbmTy0_0 (i : Nat) : BufTy := match i % 128 with
  | 0 => ⟨S16x4096x512, .bf16⟩
  | 1 => ⟨S16x4096x512, .bf16⟩
  | 2 => ⟨S16x4096x1024, .f32⟩
  | 3 => ⟨S24x6x1024, .f32⟩
  | 4 => ⟨S1x1024x1024, .f32⟩
  | 5 => ⟨S1x1024x5632, .f32⟩
  | 6 => ⟨S1x2816x1024, .f32⟩
  | 7 => ⟨S1x1024, .f32⟩
  | 8 => ⟨S1x1024, .f32⟩
  | 9 => ⟨S1x1024, .f32⟩
  | 10 => ⟨S1x1024, .f32⟩
  | 11 => ⟨S16x6x1024, .f32⟩
  | 12 => ⟨S16x1x6144, .f32⟩
  | 13 => ⟨S16x1x1024, .f32⟩
  | 14 => ⟨S16x1x1024, .f32⟩
  | 15 => ⟨S16x1x1024, .f32⟩
  | 16 => ⟨S16x1x1024, .f32⟩
  | 17 => ⟨S16x1x1024, .f32⟩
  | 18 => ⟨S16x1x1024, .f32⟩
  | 19 => ⟨S16x4096x512, .f32⟩
  | 20 => ⟨S16x4096x512, .f32⟩
  | 21 => ⟨S16x4096x1024, .f32⟩
  | 22 => ⟨S1024x1024, .f32⟩
  | 23 => ⟨S16x4096x1024, .f32⟩
  | 24 => ⟨S_, .f32⟩
  | 25 => ⟨S16x4096x1024, .f32⟩
  | 26 => ⟨S16x4096x1024, .f32⟩
  | 27 => ⟨S16x4096x1024, .f32⟩
  | 28 => ⟨S16x4096x1024, .f32⟩
  | 29 => ⟨S16x4096x1024, .f32⟩
  | 30 => ⟨S1024, .f32⟩
  | 31 => ⟨S1024, .f32⟩
  | 32 => ⟨S_, .f32⟩
  | 33 => ⟨S16x4096, .f32⟩
  | 34 => ⟨S16x4096x1, .f32⟩
  | 35 => ⟨S_, .f32⟩
  | 36 => ⟨S16x4096x1, .f32⟩
  | 37 => ⟨S16x4096x1, .f32⟩
  | 38 => ⟨S16x4096x1024, .f32⟩
  | 39 => ⟨S16x4096x1024, .f32⟩
  | 40 => ⟨S16x4096x1024, .f32⟩
  | 41 => ⟨S_, .f32⟩
  | 42 => ⟨S16x4096, .f32⟩
  | 43 => ⟨S16x4096x1, .f32⟩
  | 44 => ⟨S_, .f32⟩
  | 45 => ⟨S16x4096x1, .f32⟩
  | 46 => ⟨S16x4096x1, .f32⟩
  | 47 => ⟨S16x4096x1024, .f32⟩
  | 48 => ⟨S16x4096x1024, .f32⟩
  | 49 => ⟨S_, .f32⟩
  | 50 => ⟨S16x4096x1, .f32⟩
  | 51 => ⟨S16x4096x1, .f32⟩
  | 52 => ⟨S16x4096x1, .f32⟩
  | 53 => ⟨S16x4096x1024, .f32⟩
  | 54 => ⟨S16x4096x1024, .f32⟩
  | 55 => ⟨S1x1x1024, .f32⟩
  | 56 => ⟨S16x4096x1024, .f32⟩
  | 57 => ⟨S16x4096x1024, .f32⟩
  | 58 => ⟨S1x1x1024, .f32⟩
  | 59 => ⟨S16x4096x1024, .f32⟩
  | 60 => ⟨S16x4096x1024, .f32⟩
  | 61 => ⟨S_, .f32⟩
  | 62 => ⟨S16x4096, .f32⟩
  | 63 => ⟨S16x4096x1, .f32⟩
  | 64 => ⟨S_, .f32⟩
  | 65 => ⟨S16x4096x1, .f32⟩
  | 66 => ⟨S16x4096x1, .f32⟩
  | 67 => ⟨S16x4096x1024, .f32⟩
  | 68 => ⟨S16x4096x1024, .f32⟩
  | 69 => ⟨S16x4096x1024, .f32⟩
  | 70 => ⟨S_, .f32⟩
  | 71 => ⟨S16x4096, .f32⟩
  | 72 => ⟨S16x4096x1, .f32⟩
  | 73 => ⟨S_, .f32⟩
  | 74 => ⟨S16x4096x1, .f32⟩
  | 75 => ⟨S16x4096x1, .f32⟩
  | 76 => ⟨S16x4096x1024, .f32⟩
  | 77 => ⟨S16x4096x1024, .f32⟩
  | 78 => ⟨S_, .f32⟩
  | 79 => ⟨S16x4096x1, .f32⟩
  | 80 => ⟨S16x4096x1, .f32⟩
  | 81 => ⟨S16x4096x1, .f32⟩
  | 82 => ⟨S16x4096x1024, .f32⟩
  | 83 => ⟨S16x4096x1024, .f32⟩
  | 84 => ⟨S_, .f32⟩
  | 85 => ⟨S16x1x1024, .f32⟩
  | 86 => ⟨S16x1x1024, .f32⟩
  | 87 => ⟨S16x4096x1024, .f32⟩
  | 88 => ⟨S16x4096x1024, .f32⟩
  | 89 => ⟨S16x4096x1024, .f32⟩
  | 90 => ⟨S16x4096x1024, .f32⟩
  | 91 => ⟨S1024x5632, .f32⟩
  | 92 => ⟨S2816x1024, .f32⟩
  | 93 => ⟨S16x4096x5632, .f32⟩
  | 94 => ⟨S16x4096x2816, .f32⟩
  | 95 => ⟨S16x4096x2816, .f32⟩
  | 96 => ⟨S16x4096x2816, .f32⟩
  | 97 => ⟨S16x4096x2816, .f32⟩
  | 98 => ⟨S_, .f32⟩
  | 99 => ⟨S16x4096x2816, .f32⟩
  | 100 => ⟨S16x4096x2816, .f32⟩
  | 101 => ⟨S_, .f32⟩
  | 102 => ⟨S16x4096x2816, .f32⟩
  | 103 => ⟨S16x4096x2816, .f32⟩
  | 104 => ⟨S16x4096x2816, .f32⟩
  | 105 => ⟨S16x4096x2816, .f32⟩
  | 106 => ⟨S16x4096x1024, .f32⟩
  | 107 => ⟨S_, .f32⟩
  | 108 => ⟨S16x4096x1024, .f32⟩
  | 109 => ⟨S16x4096x1024, .f32⟩
  | 110 => ⟨S16x4096x1024, .f32⟩
  | 111 => ⟨S16x4096x1024, .f32⟩
  | 112 => ⟨S16x4096x1024, .f32⟩
  | 113 => ⟨S1024, .f32⟩
  | 114 => ⟨S1024, .f32⟩
  | 115 => ⟨S_, .f32⟩
  | 116 => ⟨S16x4096, .f32⟩
  | 117 => ⟨S16x4096x1, .f32⟩
  | 118 => ⟨S_, .f32⟩
  | 119 => ⟨S16x4096x1, .f32⟩
  | 120 => ⟨S16x4096x1, .f32⟩
  | 121 => ⟨S16x4096x1024, .f32⟩
  | 122 => ⟨S16x4096x1024, .f32⟩
  | 123 => ⟨S16x4096x1024, .f32⟩
  | 124 => ⟨S_, .f32⟩
  | 125 => ⟨S16x4096, .f32⟩
  | 126 => ⟨S16x4096x1, .f32⟩
  | 127 => ⟨S_, .f32⟩
  | _ => ⟨S16x4096x512, .bf16⟩

abbrev hbmTy0_1 (i : Nat) : BufTy := match i % 128 with
  | 0 => ⟨S16x4096x1, .f32⟩
  | 1 => ⟨S16x4096x1, .f32⟩
  | 2 => ⟨S16x4096x1024, .f32⟩
  | 3 => ⟨S16x4096x1024, .f32⟩
  | 4 => ⟨S_, .f32⟩
  | 5 => ⟨S16x4096x1, .f32⟩
  | 6 => ⟨S16x4096x1, .f32⟩
  | 7 => ⟨S16x4096x1, .f32⟩
  | 8 => ⟨S16x4096x1024, .f32⟩
  | 9 => ⟨S16x4096x1024, .f32⟩
  | 10 => ⟨S1x1x1024, .f32⟩
  | 11 => ⟨S16x4096x1024, .f32⟩
  | 12 => ⟨S16x4096x1024, .f32⟩
  | 13 => ⟨S1x1x1024, .f32⟩
  | 14 => ⟨S16x4096x1024, .f32⟩
  | 15 => ⟨S16x4096x1024, .f32⟩
  | _ => ⟨S16x4096x512, .bf16⟩

abbrev hbmTy (i : Nat) : BufTy := match i / 128 with
  | 0 => hbmTy0_0 i
  | 1 => hbmTy0_1 i
  | _ => ⟨S16x4096x512, .bf16⟩

abbrev bufTy : (tb : Table) → Fin (tcTables nBuf tb) → BufTy
  | .hbm, ⟨i, _⟩ => hbmTy i
  | _, _ => ⟨S16x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call0_v0 : Ref sig .tc := ⟨.hbm, 96, rfl⟩
abbrev main_call0_v1 : Ref sig .tc := ⟨.hbm, 97, rfl⟩
abbrev main_call0_cst : Ref sig .tc := ⟨.hbm, 98, rfl⟩
abbrev main_call0_v2 : Ref sig .tc := ⟨.hbm, 99, rfl⟩
abbrev main_call0_v3 : Ref sig .tc := ⟨.hbm, 100, rfl⟩
abbrev main_call0_cst_0 : Ref sig .tc := ⟨.hbm, 101, rfl⟩
abbrev main_call0_v4 : Ref sig .tc := ⟨.hbm, 102, rfl⟩
abbrev main_call0_v5 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_11 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_12 : Ref sig .tc := ⟨.hbm, 115, rfl⟩
abbrev main_v83 : Ref sig .tc := ⟨.hbm, 116, rfl⟩
abbrev main_v84 : Ref sig .tc := ⟨.hbm, 117, rfl⟩
abbrev main_cst_13 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_14 : Ref sig .tc := ⟨.hbm, 124, rfl⟩
abbrev main_v90 : Ref sig .tc := ⟨.hbm, 125, rfl⟩
abbrev main_v91 : Ref sig .tc := ⟨.hbm, 126, rfl⟩
abbrev main_cst_15 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_16 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩

abbrev nD : Nat := 1
abbrev τ : Topo := Topo.v7x

variable {F : FTy → Type} [FloatOps F]
-- ==== Attn.lean ====
abbrev S1x2x64 : Shape := ⟨3, ![1, 2, 64]⟩
abbrev S1x128 : Shape := ⟨2, ![1, 128]⟩
abbrev S16x4096x512 : Shape := ⟨3, ![16, 4096, 512]⟩
abbrev S16x256x512 : Shape := ⟨3, ![16, 256, 512]⟩
abbrev S2x64 : Shape := ⟨2, ![2, 64]⟩
abbrev S128 : Shape := ⟨1, ![128]⟩
abbrev S1x512x128 : Shape := ⟨3, ![1, 512, 128]⟩
abbrev S1x4096x128 : Shape := ⟨3, ![1, 4096, 128]⟩
abbrev S1x256x128 : Shape := ⟨3, ![1, 256, 128]⟩
abbrev S2x512x1 : Shape := ⟨3, ![2, 512, 1]⟩
abbrev S2x512x128 : Shape := ⟨3, ![2, 512, 128]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S256x128 : Shape := ⟨2, ![256, 128]⟩
abbrev S512x256 : Shape := ⟨2, ![512, 256]⟩
abbrev S2 : Shape := ⟨1, ![2]⟩
abbrev S2x1 : Shape := ⟨2, ![2, 1]⟩
abbrev S1x1 : Shape := ⟨2, ![1, 1]⟩

abbrev nBuf : Space → Nat
  | .hbm => 13
  | .vmem => 18
  | .smem => 0
  | _ => 0

abbrev bufTy : (tb : Table) → Fin (tcTables nBuf tb) → BufTy
  | .hbm, ⟨0, _⟩ => ⟨S1x2x64, .f32⟩
  | .hbm, ⟨1, _⟩ => ⟨S1x2x64, .f32⟩
  | .hbm, ⟨2, _⟩ => ⟨S1x128, .f32⟩
  | .hbm, ⟨3, _⟩ => ⟨S16x4096x512, .bf16⟩
  | .hbm, ⟨4, _⟩ => ⟨S16x4096x512, .bf16⟩
  | .hbm, ⟨5, _⟩ => ⟨S16x256x512, .bf16⟩
  | .hbm, ⟨6, _⟩ => ⟨S16x4096x512, .bf16⟩
  | .hbm, ⟨7, _⟩ => ⟨S16x256x512, .bf16⟩
  | .hbm, ⟨8, _⟩ => ⟨S2x64, .f32⟩
  | .hbm, ⟨9, _⟩ => ⟨S2x64, .f32⟩
  | .hbm, ⟨10, _⟩ => ⟨S128, .f32⟩
  | .hbm, ⟨11, _⟩ => ⟨S1x128, .f32⟩
  | .hbm, ⟨12, _⟩ => ⟨S16x4096x512, .bf16⟩
  | .local _ .vmem, ⟨0, _⟩ => ⟨S2x64, .f32⟩
  | .local _ .vmem, ⟨1, _⟩ => ⟨S2x64, .f32⟩
  | .local _ .vmem, ⟨2, _⟩ => ⟨S1x128, .f32⟩
  | .local _ .vmem, ⟨3, _⟩ => ⟨S1x512x128, .bf16⟩
  | .local _ .vmem, ⟨4, _⟩ => ⟨S1x512x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x512x128, .bf16⟩
  | .local _ .vmem, ⟨14, _⟩ => ⟨S1x512x128, .bf16⟩
  | .local _ .vmem, ⟨15, _⟩ => ⟨S2x512x1, .f32⟩
  | .local _ .vmem, ⟨16, _⟩ => ⟨S2x512x1, .f32⟩
  | .local _ .vmem, ⟨17, _⟩ => ⟨S2x512x128, .f32⟩
  | _, _ => ⟨S1x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![16, 4, 8], ![false, false, false]⟩

@[reducible] def k0_t1_loop : Scf.Loop 32 :=
  let c0_i32 : BitVec 32 := 0#32
  let c8_i32 : BitVec 32 := 8#32
  let v22 : BitVec 32 := Scalar.addi c0_i32 c8_i32
  let c1_i32 : BitVec 32 := 1#32
  ⟨c0_i32, v22, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32 : BitVec 32 := 512#32
  let v142 : BitVec 32 := Scalar.muli arg15 c512_i32
  v142
def k0_off1 (k0_t1 : Fin k0_t1_loop.trips) : Fin 3 → Nat :=
  let c0_92 : Index := 0#32
  let c0_i32 : BitVec 32 := 0#32
  let c1_i32 : BitVec 32 := 1#32
  let arg15 : BitVec 32 := Scf.iv c0_i32 c1_i32 k0_t1
  let c512_i32 : BitVec 32 := 512#32
  let v142 : BitVec 32 := Scalar.muli arg15 c512_i32
  let v143 : BitVec 32 := v142
  let v144 : Index := Scalar.indexCast v143
  let c0_93 : Index := 0#32
  ![0, v144.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnRefIdeal.lean ====
abbrev S1x2x64 : Shape := ⟨3, ![1, 2, 64]⟩
abbrev S1x128 : Shape := ⟨2, ![1, 128]⟩
abbrev S16x4096x512 : Shape := ⟨3, ![16, 4096, 512]⟩
abbrev S16x256x512 : Shape := ⟨3, ![16, 256, 512]⟩
abbrev S16x4096x4x2x64 : Shape := ⟨5, ![16, 4096, 4, 2, 64]⟩
abbrev S16x4352x512 : Shape := ⟨3, ![16, 4352, 512]⟩
abbrev S16x4352x4x2x64 : Shape := ⟨5, ![16, 4352, 4, 2, 64]⟩
abbrev S16x4352x4x128 : Shape := ⟨4, ![16, 4352, 4, 128]⟩
abbrev S2x64 : Shape := ⟨2, ![2, 64]⟩
abbrev S_ : Shape := ⟨0, ![]⟩
abbrev S2 : Shape := ⟨1, ![2]⟩
abbrev S1 : Shape := ⟨1, ![1]⟩
abbrev S16x2x4x4096x4352 : Shape := ⟨5, ![16, 2, 4, 4096, 4352]⟩
abbrev S16x2x4x4096 : Shape := ⟨4, ![16, 2, 4, 4096]⟩
abbrev S16x2x4x4096x1 : Shape := ⟨5, ![16, 2, 4, 4096, 1]⟩
abbrev S16x1x4x4096x4352 : Shape := ⟨5, ![16, 1, 4, 4096, 4352]⟩
abbrev S16x4x4096x4352 : Shape := ⟨4, ![16, 4, 4096, 4352]⟩
abbrev S16x4x128x4096 : Shape := ⟨4, ![16, 4, 128, 4096]⟩
abbrev S16x4096x4x128 : Shape := ⟨4, ![16, 4096, 4, 128]⟩
abbrev S16x4096x4 : Shape := ⟨3, ![16, 4096, 4]⟩
abbrev S16x4096x4x1 : Shape := ⟨4, ![16, 4096, 4, 1]⟩
abbrev S128 : Shape := ⟨1, ![128]⟩
abbrev S1x1x1x128 : Shape := ⟨4, ![1, 1, 1, 128]⟩

abbrev nBuf : Space → Nat
  | .hbm => 82
  | .vmem => 0
  | .smem => 0
  | _ => 0

abbrev bufTy : (tb : Table) → Fin (tcTables nBuf tb) → BufTy
  | .hbm, ⟨0, _⟩ => ⟨S1x2x64, .f32⟩
  | .hbm, ⟨1, _⟩ => ⟨S1x2x64, .f32⟩
  | .hbm, ⟨2, _⟩ => ⟨S1x128, .f32⟩
  | .hbm, ⟨3, _⟩ => ⟨S16x4096x512, .bf16⟩
  | .hbm, ⟨4, _⟩ => ⟨S16x4096x512, .bf16⟩
  | .hbm, ⟨5, _⟩ => ⟨S16x256x512, .bf16⟩
  | .hbm, ⟨6, _⟩ => ⟨S16x4096x512, .bf16⟩
  | .hbm, ⟨7, _⟩ => ⟨S16x256x512, .bf16⟩
  | .hbm, ⟨8, _⟩ => ⟨S16x4096x512, .f32⟩
  | .hbm, ⟨9, _⟩ => ⟨S16x4096x512, .f32⟩
  | .hbm, ⟨10, _⟩ => ⟨S16x256x512, .f32⟩
  | .hbm, ⟨11, _⟩ => ⟨S16x4096x512, .f32⟩
  | .hbm, ⟨12, _⟩ => ⟨S16x256x512, .f32⟩
  | .hbm, ⟨13, _⟩ => ⟨S16x4096x4x2x64, .f32⟩
  | .hbm, ⟨14, _⟩ => ⟨S16x4352x512, .f32⟩
  | .hbm, ⟨15, _⟩ => ⟨S16x4352x4x2x64, .f32⟩
  | .hbm, ⟨16, _⟩ => ⟨S16x4352x512, .f32⟩
  | .hbm, ⟨17, _⟩ => ⟨S16x4352x4x128, .f32⟩
  | .hbm, ⟨18, _⟩ => ⟨S2x64, .f32⟩
  | .hbm, ⟨19, _⟩ => ⟨S2x64, .f32⟩
  | .hbm, ⟨20, _⟩ => ⟨S2x64, .f32⟩
  | .hbm, ⟨21, _⟩ => ⟨S_, .f32⟩
  | .hbm, ⟨22, _⟩ => ⟨S2, .f32⟩
  | .hbm, ⟨23, _⟩ => ⟨S1, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16x2x4x4096x4352, .f32⟩
  | .hbm, ⟨33, _⟩ => ⟨S_, .f32⟩
  | .hbm, ⟨34, _⟩ => ⟨S_, .f32⟩
  | .hbm, ⟨35, _⟩ => ⟨S16x2x4x4096x4352, .f32⟩
  | .hbm, ⟨36, _⟩ => ⟨S16x2x4x4096x4352, .f32⟩
  | .hbm, ⟨37, _⟩ => ⟨S_, .f32⟩
  | .hbm, ⟨38, _⟩ => ⟨S16x2x4x4096, .f32⟩
  | .hbm, ⟨39, _⟩ => ⟨S_, .f32⟩
  | .hbm, ⟨40, _⟩ => ⟨S16x2x4x4096, .f32⟩
  | .hbm, ⟨41, _⟩ => ⟨S16x2x4x4096, .f32⟩
  | .hbm, ⟨42, _⟩ => ⟨S16x2x4x4096x1, .f32⟩
  | .hbm, ⟨43, _⟩ => ⟨S16x2x4x4096x4352, .f32⟩
  | .hbm, ⟨44, _⟩ => ⟨S16x2x4x4096x4352, .f32⟩
  | .hbm, ⟨45, _⟩ => ⟨S16x2x4x4096x4352, .f32⟩
  | .hbm, ⟨46, _⟩ => ⟨S_, .f32⟩
  | .hbm, ⟨47, _⟩ => ⟨S16x2x4x4096, .f32⟩
  | .hbm, ⟨48, _⟩ => ⟨S16x2x4x4096x1, .f32⟩
  | .hbm, ⟨49, _⟩ => ⟨S16x2x4x4096x4352, .f32⟩
  | .hbm, ⟨50, _⟩ => ⟨S16x2x4x4096x4352, .f32⟩
  | .hbm, ⟨51, _⟩ => ⟨S16x1x4x4096x4352, .f32⟩
  | .hbm, ⟨52, _⟩ => ⟨S16x4x4096x4352, .f32⟩
  | .hbm, ⟨53, _⟩ => ⟨S16x1x4x4096x4352, .f32⟩
  | .hbm, ⟨54, _⟩ => ⟨S16x4x4096x4352, .f32⟩
  | .hbm, ⟨55, _⟩ => ⟨S16x4x4096x4352, .f32⟩
  | .hbm, ⟨56, _⟩ => ⟨S16x4x4096x4352, .f32⟩
  | .hbm, ⟨57, _⟩ => ⟨S16x4x4096x4352, .f32⟩
  | .hbm, ⟨58, _⟩ => ⟨S16x4x128x4096, .f32⟩
  | .hbm, ⟨59, _⟩ => ⟨S16x4096x4x128, .f32⟩
  | .hbm, ⟨60, _⟩ => ⟨S16x4096x4x128, .f32⟩
  | .hbm, ⟨61, _⟩ => ⟨S_, .f32⟩
  | .hbm, ⟨62, _⟩ => ⟨S16x4096x4, .f32⟩
  | .hbm, ⟨63, _⟩ => ⟨S16x4096x4x1, .f32⟩
  | .hbm, ⟨64, _⟩ => ⟨S_, .f32⟩
  | .hbm, ⟨65, _⟩ => ⟨S16x4096x4x1, .f32⟩
  | .hbm, ⟨66, _⟩ => ⟨S16x4096x4x1, .f32⟩
  | .hbm, ⟨67, _⟩ => ⟨S_, .f32⟩
  | .hbm, ⟨68, _⟩ => ⟨S16x4096x4x1, .f32⟩
  | .hbm, ⟨69, _⟩ => ⟨S16x4096x4x1, .f32⟩
  | .hbm, ⟨70, _⟩ => ⟨S16x4096x4x1, .f32⟩
  | .hbm, ⟨71, _⟩ => ⟨S16x4096x4x128, .f32⟩
  | .hbm, ⟨72, _⟩ => ⟨S16x4096x4x128, .f32⟩
  | .hbm, ⟨73, _⟩ => ⟨S128, .f32⟩
  | .hbm, ⟨74, _⟩ => ⟨S1x1x1x128, .f32⟩
  | .hbm, ⟨75, _⟩ => ⟨S16x4096x4x128, .f32⟩
  | .hbm, ⟨76, _⟩ => ⟨S16x4096x4x128, .f32⟩
  | .hbm, ⟨77, _⟩ => ⟨S_, .f32⟩
  | .hbm, ⟨78, _⟩ => ⟨S16x4096x4x128, .f32⟩
  | .hbm, ⟨79, _⟩ => ⟨S16x4096x4x128, .f32⟩
  | .hbm, ⟨80, _⟩ => ⟨S16x4096x512, .f32⟩
  | .hbm, ⟨81, _⟩ => ⟨S16x4096x512, .bf16⟩
  | _, _ => ⟨S1x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Inproj.lean ====
abbrev S16x4096x1024 : Shape := ⟨3, ![16, 4096, 1024]⟩
abbrev S24x6x1024 : Shape := ⟨3, ![24, 6, 1024]⟩
abbrev S1x1024x2560 : Shape := ⟨3, ![1, 1024, 2560]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024x2560 : Shape := ⟨2, ![1024, 2560]⟩
abbrev S16x4096x512 : Shape := ⟨3, ![16, 4096, 512]⟩
abbrev S1x512x1024 : Shape := ⟨3, ![1, 512, 1024]⟩
abbrev S1x6x1024 : Shape := ⟨3, ![1, 6, 1024]⟩
abbrev S512x128 : Shape := ⟨2, ![512, 128]⟩
abbrev S1x512x512 : Shape := ⟨3, ![1, 512, 512]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 55
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S24x6x1024, .f32⟩
  | .hbm, ⟨2, _⟩ => ⟨S1x1024x2560, .f32⟩
  | .hbm, ⟨3, _⟩ => ⟨S64, .f32⟩
  | .hbm, ⟨4, _⟩ => ⟨S64x64, .f32⟩
  | .hbm, ⟨5, _⟩ => ⟨S4096, .f32⟩
  | .hbm, ⟨6, _⟩ => ⟨S64, .f32⟩
  | .hbm, ⟨7, _⟩ => ⟨S1x64, .f32⟩
  | .hbm, ⟨8, _⟩ => ⟨S64x64, .f32⟩
  | .hbm, ⟨9, _⟩ => ⟨S4096, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S4096x1, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x1, .f32⟩
  | .hbm, ⟨24, _⟩ => ⟨S1x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S_, .f32⟩
  | .hbm, ⟨33, _⟩ => ⟨S4096x16, .f32⟩
  | .hbm, ⟨34, _⟩ => ⟨S4096x64, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S4096x16, .f32⟩
  | .hbm, ⟨39, _⟩ => ⟨S4096x16, .f32⟩
  | .hbm, ⟨40, _⟩ => ⟨S4096x64, .f32⟩
  | .hbm, ⟨41, _⟩ => ⟨S1x4096x1x64, .f32⟩
  | .hbm, ⟨42, _⟩ => ⟨S1x4096x2x64, .f32⟩
  | .hbm, ⟨43, _⟩ => ⟨S4096x128, .f32⟩
  | .hbm, ⟨44, _⟩ => ⟨S4096x64, .f32⟩
  | .hbm, ⟨45, _⟩ => ⟨S1x4096x1x64, .f32⟩
  | .hbm, ⟨46, _⟩ => ⟨S1x4096x2x64, .f32⟩
  | .hbm, ⟨47, _⟩ => ⟨S4096x128, .f32⟩
  | .hbm, ⟨48, _⟩ => ⟨S1024x2560, .f32⟩
  | .hbm, ⟨49, _⟩ => ⟨S1024x2560, .bf16⟩
  | .hbm, ⟨50, _⟩ => ⟨S16x4096x512, .bf16⟩
  | .hbm, ⟨51, _⟩ => ⟨S16x4096x512, .bf16⟩
  | .hbm, ⟨52, _⟩ => ⟨S16x4096x512, .bf16⟩
  | .hbm, ⟨53, _⟩ => ⟨S16x4096x512, .f32⟩
  | .hbm, ⟨54, _⟩ => ⟨S16x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2560, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .f32⟩
  | .local _ .vmem, ⟨18, _⟩ => ⟨S1x512x512, .f32⟩
  | .local _ .vmem, ⟨19, _⟩ => ⟨S1x512x512, .bf16⟩
  | .local _ .vmem, ⟨20, _⟩ => ⟨S1x512x512, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44_0 : Ref sig .tc := ⟨.hbm, 50, rfl⟩
abbrev main_v44_1 : Ref sig .tc := ⟨.hbm, 51, rfl⟩
abbrev main_v44_2 : Ref sig .tc := ⟨.hbm, 52, rfl⟩
abbrev main_v44_3 : Ref sig .tc := ⟨.hbm, 53, rfl⟩
abbrev main_v44_4 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== InprojRefIdeal.lean ====
abbrev S16x4096x1024 : Shape := ⟨3, ![16, 4096, 1024]⟩
abbrev S24x6x1024 : Shape := ⟨3, ![24, 6, 1024]⟩
abbrev S1x1024x2560 : Shape := ⟨3, ![1, 1024, 2560]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S16x6x1024 : Shape := ⟨3, ![16, 6, 1024]⟩
abbrev S16x1x6144 : Shape := ⟨3, ![16, 1, 6144]⟩
abbrev S16x1x1024 : Shape := ⟨3, ![16, 1, 1024]⟩
abbrev S16x4096 : Shape := ⟨2, ![16, 4096]⟩
abbrev S16x4096x1 : Shape := ⟨3, ![16, 4096, 1]⟩
abbrev S1024x2560 : Shape := ⟨2, ![1024, 2560]⟩
abbrev S16x4096x2560 : Shape := ⟨3, ![16, 4096, 2560]⟩
abbrev S16x4096x512 : Shape := ⟨3, ![16, 4096, 512]⟩
abbrev S16x4096x4x2x64 : Shape := ⟨5, ![16, 4096, 4, 2, 64]⟩
abbrev S16x4096x4x2x2x2x16 : Shape := ⟨7, ![16, 4096, 4, 2, 2, 2, 16]⟩
abbrev S16x4096x4x2x2x1x16 : Shape := ⟨7, ![16, 4096, 4, 2, 2, 1, 16]⟩
abbrev S16x4096x4x2x2x16 : Shape := ⟨6, ![16, 4096, 4, 2, 2, 16]⟩
abbrev S4096x1x1x2x16 : Shape := ⟨5, ![4096, 1, 1, 2, 16]⟩
abbrev S1x4096x1x1x2x16 : Shape := ⟨6, ![1, 4096, 1, 1, 2, 16]⟩

abbrev nBuf : Space → Nat
  | .hbm => 156
  | .vmem => 0
  | .smem => 0
  | _ => 0

abbrev hbmTy0_0 (i : Nat) : BufTy := match i % 128 with
  | 0 => ⟨S16x4096x1024, .f32⟩
  | 1 => ⟨S24x6x1024, .f32⟩
  | 2 => ⟨S1x1024x2560, .f32⟩
  | 3 => ⟨S64, .f32⟩
  | 4 => ⟨S64x64, .f32⟩
  | 5 => ⟨S4096, .f32⟩
  | 6 => ⟨S64, .f32⟩
  | 7 => ⟨S1x64, .f32⟩
  | 8 => ⟨S64x64, .f32⟩
  | 9 => ⟨S4096, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S4096x1, .f32⟩
  | 19 => ⟨S1x16, .f32⟩
  | 20 => ⟨S4096x16, .f32⟩
  | 21 => ⟨S4096x16, .f32⟩
  | 22 => ⟨S4096x16, .f32⟩
  | 23 => ⟨S4096x1, .f32⟩
  | 24 => ⟨S1x16, .f32⟩
  | 25 => ⟨S4096x16, .f32⟩
  | 26 => ⟨S4096x16, .f32⟩
  | 27 => ⟨S4096x16, .f32⟩
  | 28 => ⟨S4096x1x16, .f32⟩
  | 29 => ⟨S4096x1x16, .f32⟩
  | 30 => ⟨S4096x2x16, .f32⟩
  | 31 => ⟨S4096x2x16, .f32⟩
  | 32 => ⟨S4096x2x16, .f32⟩
  | 33 => ⟨S16x6x1024, .f32⟩
  | 34 => ⟨S16x1x6144, .f32⟩
  | 35 => ⟨S16x1x1024, .f32⟩
  | 36 => ⟨S16x1x1024, .f32⟩
  | 37 => ⟨S16x1x1024, .f32⟩
  | 38 => ⟨S16x1x1024, .f32⟩
  | 39 => ⟨S16x1x1024, .f32⟩
  | 40 => ⟨S16x1x1024, .f32⟩
  | 41 => ⟨S_, .f32⟩
  | 42 => ⟨S16x4096, .f32⟩
  | 43 => ⟨S16x4096x1, .f32⟩
  | 44 => ⟨S_, .f32⟩
  | 45 => ⟨S16x4096x1, .f32⟩
  | 46 => ⟨S16x4096x1, .f32⟩
  | 47 => ⟨S16x4096x1024, .f32⟩
  | 48 => ⟨S16x4096x1024, .f32⟩
  | 49 => ⟨S16x4096x1024, .f32⟩
  | 50 => ⟨S_, .f32⟩
  | 51 => ⟨S16x4096, .f32⟩
  | 52 => ⟨S16x4096x1, .f32⟩
  | 53 => ⟨S_, .f32⟩
  | 54 => ⟨S16x4096x1, .f32⟩
  | 55 => ⟨S16x4096x1, .f32⟩
  | 56 => ⟨S16x4096x1024, .f32⟩
  | 57 => ⟨S16x4096x1024, .f32⟩
  | 58 => ⟨S_, .f32⟩
  | 59 => ⟨S16x4096x1, .f32⟩
  | 60 => ⟨S16x4096x1, .f32⟩
  | 61 => ⟨S16x4096x1, .f32⟩
  | 62 => ⟨S16x4096x1024, .f32⟩
  | 63 => ⟨S16x4096x1024, .f32⟩
  | 64 => ⟨S_, .f32⟩
  | 65 => ⟨S16x1x1024, .f32⟩
  | 66 => ⟨S16x1x1024, .f32⟩
  | 67 => ⟨S16x4096x1024, .f32⟩
  | 68 => ⟨S16x4096x1024, .f32⟩
  | 69 => ⟨S16x4096x1024, .f32⟩
  | 70 => ⟨S16x4096x1024, .f32⟩
  | 71 => ⟨S1024x2560, .f32⟩
  | 72 => ⟨S16x4096x2560, .f32⟩
  | 73 => ⟨S16x4096x512, .f32⟩
  | 74 => ⟨S16x4096x512, .f32⟩
  | 75 => ⟨S16x4096x512, .f32⟩
  | 76 => ⟨S16x4096x512, .f32⟩
  | 77 => ⟨S16x4096x512, .f32⟩
  | 78 => ⟨S16x4096x4x2x64, .f32⟩
  | 79 => ⟨S16x4096x4x2x2x2x16, .f32⟩
  | 80 => ⟨S16x4096x4x2x2x1x16, .f32⟩
  | 81 => ⟨S16x4096x4x2x2x16, .f32⟩
  | 82 => ⟨S16x4096x4x2x2x1x16, .f32⟩
  | 83 => ⟨S16x4096x4x2x2x16, .f32⟩
  | 84 => ⟨S4096x1x1x2x16, .f32⟩
  | 85 => ⟨S4096x1x1x2x16, .f32⟩
  | 86 => ⟨S1x4096x1x1x2x16, .f32⟩
  | 87 => ⟨S16x4096x4x2x2x16, .f32⟩
  | 88 => ⟨S16x4096x4x2x2x16, .f32⟩
  | 89 => ⟨S1x4096x1x1x2x16, .f32⟩
  | 90 => ⟨S16x4096x4x2x2x16, .f32⟩
  | 91 => ⟨S16x4096x4x2x2x16, .f32⟩
  | 92 => ⟨S16x4096x4x2x2x16, .f32⟩
  | 93 => ⟨S1x4096x1x1x2x16, .f32⟩
  | 94 => ⟨S16x4096x4x2x2x16, .f32⟩
  | 95 => ⟨S16x4096x4x2x2x16, .f32⟩
  | 96 => ⟨S1x4096x1x1x2x16, .f32⟩
  | 97 => ⟨S16x4096x4x2x2x16, .f32⟩
  | 98 => ⟨S16x4096x4x2x2x16, .f32⟩
  | 99 => ⟨S16x4096x4x2x2x16, .f32⟩
  | 100 => ⟨S16x4096x4x2x2x1x16, .f32⟩
  | 101 => ⟨S16x4096x4x2x2x1x16, .f32⟩
  | 102 => ⟨S16x4096x4x2x2x2x16, .f32⟩
  | 103 => ⟨S16x4096x4x2x64, .f32⟩
  | 104 => ⟨S_, .f32⟩
  | 105 => ⟨S16x4096x4x2x64, .f32⟩
  | 106 => ⟨S16x4096x4x2x64, .f32⟩
  | 107 => ⟨S16x4096x4x2x64, .f32⟩
  | 108 => ⟨S16x4096x4x2x2x2x16, .f32⟩
  | 109 => ⟨S16x4096x4x2x2x1x16, .f32⟩
  | 110 => ⟨S16x4096x4x2x2x16, .f32⟩
  | 111 => ⟨S16x4096x4x2x2x1x16, .f32⟩
  | 112 => ⟨S16x4096x4x2x2x16, .f32⟩
  | 113 => ⟨S4096x1x1x2x16, .f32⟩
  | 114 => ⟨S4096x1x1x2x16, .f32⟩
  | 115 => ⟨S1x4096x1x1x2x16, .f32⟩
  | 116 => ⟨S16x4096x4x2x2x16, .f32⟩
  | 117 => ⟨S16x4096x4x2x2x16, .f32⟩
  | 118 => ⟨S1x4096x1x1x2x16, .f32⟩
  | 119 => ⟨S16x4096x4x2x2x16, .f32⟩
  | 120 => ⟨S16x4096x4x2x2x16, .f32⟩
  | 121 => ⟨S16x4096x4x2x2x16, .f32⟩
  | 122 => ⟨S1x4096x1x1x2x16, .f32⟩
  | 123 => ⟨S16x4096x4x2x2x16, .f32⟩
  | 124 => ⟨S16x4096x4x2x2x16, .f32⟩
  | 125 => ⟨S1x4096x1x1x2x16, .f32⟩
  | 126 => ⟨S16x4096x4x2x2x16, .f32⟩
  | 127 => ⟨S16x4096x4x2x2x16, .f32⟩
  | _ => ⟨S16x4096x1024, .f32⟩

abbrev hbmTy0_1 (i : Nat) : BufTy := match i % 128 with
  | 0 => ⟨S16x4096x4x2x2x16, .f32⟩
  | 1 => ⟨S16x4096x4x2x2x1x16, .f32⟩
  | 2 => ⟨S16x4096x4x2x2x1x16, .f32⟩
  | 3 => ⟨S16x4096x4x2x2x2x16, .f32⟩
  | 4 => ⟨S16x4096x4x2x64, .f32⟩
  | 5 => ⟨S16x4096x512, .f32⟩
  | 6 => ⟨S16x4096x512, .bf16⟩
  | 7 => ⟨S16x4096x512, .f32⟩
  | 8 => ⟨S16x4096x512, .bf16⟩
  | 9 => ⟨S16x4096x512, .bf16⟩
  | 10 => ⟨S16x4096x512, .f32⟩
  | 11 => ⟨S16x4096x512, .f32⟩
  | 12 => ⟨S_, .f32⟩
  | 13 => ⟨S16x4096x512, .f32⟩
  | 14 => ⟨S16x4096x512, .f32⟩
  | 15 => ⟨S16x4096x512, .f32⟩
  | 16 => ⟨S_, .f32⟩
  | 17 => ⟨S16x4096x512, .f32⟩
  | 18 => ⟨S16x4096x512, .f32⟩
  | 19 => ⟨S16x4096x512, .f32⟩
  | 20 => ⟨S_, .f32⟩
  | 21 => ⟨S16x4096x512, .f32⟩
  | 22 => ⟨S16x4096x512, .f32⟩
  | 23 => ⟨S_, .f32⟩
  | 24 => ⟨S16x4096x512, .f32⟩
  | 25 => ⟨S16x4096x512, .f32⟩
  | 26 => ⟨S16x4096x512, .f32⟩
  | 27 => ⟨S16x4096x512, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_5 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_7 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_cst_8 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_cst_9 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_cst_10 : Ref sig .tc := ⟨.hbm, 148, rfl⟩
abbrev main_v134 : Ref sig .tc := ⟨.hbm, 149, rfl⟩
abbrev main_v135 : Ref sig .tc := ⟨.hbm, 150, rfl⟩
abbrev main_cst_11 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩

abbrev nD : Nat := 1
abbrev τ : Topo := Topo.v7x

variable {F : FTy → Type} [FloatOps F]
-- ==== Inctx.lean ====
abbrev S16x256x1024 : Shape := ⟨3, ![16, 256, 1024]⟩
abbrev S24x6x1024 : Shape := ⟨3, ![24, 6, 1024]⟩
abbrev S1x1024x2560 : Shape := ⟨3, ![1, 1024, 2560]⟩
abbrev S1024x2560 : Shape := ⟨2, ![1024, 2560]⟩
abbrev S16x256x512 : Shape := ⟨3, ![16, 256, 512]⟩
abbrev S1x256x1024 : Shape := ⟨3, ![1, 256, 1024]⟩
abbrev S1x6x1024 : Shape := ⟨3, ![1, 6, 1024]⟩
abbrev S1x256x512 : Shape := ⟨3, ![1, 256, 512]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 8
  | .vmem => 10
  | .smem => 0
  | _ => 0

abbrev bufTy : (tb : Table) → Fin (tcTables nBuf tb) → BufTy
  | .hbm, ⟨0, _⟩ => ⟨S16x256x1024, .f32⟩
  | .hbm, ⟨1, _⟩ => ⟨S24x6x1024, .f32⟩
  | .hbm, ⟨2, _⟩ => ⟨S1x1024x2560, .f32⟩
  | .hbm, ⟨3, _⟩ => ⟨S1024x2560, .f32⟩
  | .hbm, ⟨4, _⟩ => ⟨S1024x2560, .bf16⟩
  | .hbm, ⟨5, _⟩ => ⟨S16x256x512, .bf16⟩
  | .hbm, ⟨6, _⟩ => ⟨S16x256x512, .bf16⟩
  | .hbm, ⟨7, _⟩ => ⟨S16x256x512, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1024x2560, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .f32⟩
  | .local _ .vmem, ⟨9, _⟩ => ⟨S1x256x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InctxRefIdeal.lean ====
abbrev S16x256x1024 : Shape := ⟨3, ![16, 256, 1024]⟩
abbrev S24x6x1024 : Shape := ⟨3, ![24, 6, 1024]⟩
abbrev S1x1024x2560 : Shape := ⟨3, ![1, 1024, 2560]⟩
abbrev S1x6x1024 : Shape := ⟨3, ![1, 6, 1024]⟩
abbrev S6x1024 : Shape := ⟨2, ![6, 1024]⟩
abbrev S6144 : Shape := ⟨1, ![6144]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1024x2560 : Shape := ⟨2, ![1024, 2560]⟩
abbrev S16x256x2560 : Shape := ⟨3, ![16, 256, 2560]⟩
abbrev S16x256x512 : Shape := ⟨3, ![16, 256, 512]⟩

abbrev nBuf : Space → Nat
  | .hbm => 53
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S24x6x1024, .f32⟩
  | .hbm, ⟨2, _⟩ => ⟨S1x1024x2560, .f32⟩
  | .hbm, ⟨3, _⟩ => ⟨S1x6x1024, .f32⟩
  | .hbm, ⟨4, _⟩ => ⟨S6x1024, .f32⟩
  | .hbm, ⟨5, _⟩ => ⟨S6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S16x256x1024, .f32⟩
  | .hbm, ⟨19, _⟩ => ⟨S16x256x1024, .f32⟩
  | .hbm, ⟨20, _⟩ => ⟨S16x256x1024, .f32⟩
  | .hbm, ⟨21, _⟩ => ⟨S_, .f32⟩
  | .hbm, ⟨22, _⟩ => ⟨S16x256, .f32⟩
  | .hbm, ⟨23, _⟩ => ⟨S16x256x1, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S16x256x1, .f32⟩
  | .hbm, ⟨31, _⟩ => ⟨S16x256x1, .f32⟩
  | .hbm, ⟨32, _⟩ => ⟨S16x256x1, .f32⟩
  | .hbm, ⟨33, _⟩ => ⟨S16x256x1024, .f32⟩
  | .hbm, ⟨34, _⟩ => ⟨S16x256x1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1x1x1024, .f32⟩
  | .hbm, ⟨39, _⟩ => ⟨S16x256x1024, .f32⟩
  | .hbm, ⟨40, _⟩ => ⟨S16x256x1024, .f32⟩
  | .hbm, ⟨41, _⟩ => ⟨S1x1x1024, .f32⟩
  | .hbm, ⟨42, _⟩ => ⟨S16x256x1024, .f32⟩
  | .hbm, ⟨43, _⟩ => ⟨S16x256x1024, .f32⟩
  | .hbm, ⟨44, _⟩ => ⟨S1024x2560, .f32⟩
  | .hbm, ⟨45, _⟩ => ⟨S16x256x2560, .f32⟩
  | .hbm, ⟨46, _⟩ => ⟨S16x256x512, .f32⟩
  | .hbm, ⟨47, _⟩ => ⟨S16x256x512, .f32⟩
  | .hbm, ⟨48, _⟩ => ⟨S16x256x512, .f32⟩
  | .hbm, ⟨49, _⟩ => ⟨S16x256x512, .f32⟩
  | .hbm, ⟨50, _⟩ => ⟨S16x256x512, .f32⟩
  | .hbm, ⟨51, _⟩ => ⟨S16x256x512, .bf16⟩
  | .hbm, ⟨52, _⟩ => ⟨S16x256x512, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Mod.lean ====
abbrev S24x1024 : Shape := ⟨2, ![24, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S24x6144 : Shape := ⟨2, ![24, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S24x6144, .f32⟩
  | .local _ .vmem, ⟨0, _⟩ => ⟨S24x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S24x1024, .f32⟩
  | .local _ .vmem, ⟨6, _⟩ => ⟨S24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S24x1024 : Shape := ⟨2, ![24, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S24x6144 : Shape := ⟨2, ![24, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S1x1024x6144, .f32⟩
  | .hbm, ⟨2, _⟩ => ⟨S1x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S1024x6144, .f32⟩
  | .hbm, ⟨13, _⟩ => ⟨S24x6144, .f32⟩
  | .hbm, ⟨14, _⟩ => ⟨S6144, .f32⟩
  | .hbm, ⟨15, _⟩ => ⟨S1x6144, .f32⟩
  | .hbm, ⟨16, _⟩ => ⟨S24x6144, .f32⟩
  | .hbm, ⟨17, _⟩ => ⟨S24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Rows.lean ====
/-
  The layer's row functions over the extended reals: layer normalization of a row of 1024 numbers, its modulation, the
  gated feed-forward product and the two residual sums. Both the kernel's block and the reference's array are read
  as these functions of the rows of their arguments.
-/
module

public import Idealize.ShloMosaic.Lib.Pointwise

@[expose] public section

noncomputable section

namespace Cert.Rows

open Idealize.ShloMosaic

/-- The number of features, as the literal `1024.0`. -/
abbrev width : EReal := Ideal.ofBits .f32 0x44800000#32
/-- The normalization's epsilon, the literal `1e-6`. -/
abbrev eps : EReal := Ideal.ofBits .f32 0x358637BD#32
/-- The residual's scale. -/
abbrev alpha : EReal := Ideal.ofBits .f32 0x3F9837F0#32

/-- A row less its mean. -/
abbrev center (x : Fin 1024 → EReal) (j : Fin 1024) : EReal := x j - Ideal.div (∑ k, x k) width

/-- A row normalized: centred, over the root of its variance plus epsilon. -/
abbrev norm (x : Fin 1024 → EReal) (j : Fin 1024) : EReal :=
  center x j * Ideal.rsqrt (Ideal.div (∑ k, center x k * center x k) width + eps)

/-- A row normalized, scaled and shifted. -/
abbrev affine (g b x : Fin 1024 → EReal) (j : Fin 1024) : EReal := norm x j * g j + b j

/-- A row normalized and modulated: scaled by one plus the scale, then shifted. -/
abbrev modulate (sh sc x : Fin 1024 → EReal) (j : Fin 1024) : EReal := norm x j * (1 + sc j) + sh j

/-- The residual sum of a row and a gated update. -/
abbrev residual (x g u : Fin 1024 → EReal) (j : Fin 1024) : EReal := alpha * x j + g j * u j

/-- A row times a matrix. -/
abbrev dot {n k : ℕ} (x : Fin n → EReal) (w : Fin n → Fin k → EReal) (j : Fin k) : EReal := ∑ i, x i * w i j

/-- The gate `a · sigmoid a`, spelt with the exponential. -/
abbrev silu (a : EReal) : EReal := a * Ideal.div 1 (1 + Ideal.exp (-a))

/-- The gate's activation: `a` times half of one plus the hyperbolic tangent of a cubic in `a`. -/
abbrev gelu (a : EReal) : EReal :=
  a * (Ideal.ofBits .f32 0x3F000000#32 * (1 + Ideal.tanh (Ideal.ofBits .f32 0x3F4C422A#32 * (a + Ideal.ofBits .f32 0x3D372713#32 * (a * a * a)))))

/-- The gated feed-forward of a row: the two halves of the first product, gated and multiplied, times the second matrix. -/
abbrev ffn (w1 w2 : Fin 1024 → Fin 2816 → EReal) (w3 : Fin 2816 → Fin 1024 → EReal) (u : Fin 1024 → EReal)
    (j : Fin 1024) : EReal :=
  dot (fun k => silu (dot u w1 k) * dot u w2 k) w3 j

/-- The layer's tail on one token: the output projection of the attention row `o` and the recurrence row `y` gated
    into the input row `x`, a layer normalization, the modulated feed-forward gated into it, and a last layer
    normalization. `p` is the modulation's six pieces and `ln` the two normalizations' scales and shifts. -/
def tailRow (o y : Fin 512 → EReal) (x : Fin 1024 → EReal) (p : Fin 6 → Fin 1024 → EReal)
    (wo : Fin 1024 → Fin 1024 → EReal) (w1 : Fin 1024 → Fin 5632 → EReal) (w2 : Fin 2816 → Fin 1024 → EReal)
    (ln : Fin 4 → Fin 1024 → EReal) (j : Fin 1024) : EReal :=
  let r1 : Fin 1024 → EReal := residual x (p 2) fun j =>
    dot o (fun k j => wo ⟨k.val, by omega⟩ j) j + dot y (fun k j => wo ⟨512 + k.val, by omega⟩ j) j
  let x1 : Fin 1024 → EReal := affine (ln 0) (ln 1) r1
  affine (ln 2) (ln 3)
    (residual x1 (p 5) (ffn (fun k j => w1 k ⟨j.val, by omega⟩) (fun k j => w1 k ⟨2816 + j.val, by omega⟩) w2
      (modulate (p 3) (p 4) x1))) j

/-- Rows that agree entry by entry have the same tail. -/
theorem tailRow_congr {o o' y y' : Fin 512 → EReal} {x x' : Fin 1024 → EReal} {p p' : Fin 6 → Fin 1024 → EReal}
    {wo wo' : Fin 1024 → Fin 1024 → EReal} {w1 w1' : Fin 1024 → Fin 5632 → EReal} {w2 w2' : Fin 2816 → Fin 1024 → EReal}
    {ln ln' : Fin 4 → Fin 1024 → EReal} (ho : ∀ k, o k = o' k) (hy : ∀ k, y k = y' k) (hx : ∀ k, x k = x' k)
    (hp : ∀ i k, p i k = p' i k) (hwo : ∀ i k, wo i k = wo' i k) (hw1 : ∀ i k, w1 i k = w1' i k)
    (hw2 : ∀ i k, w2 i k = w2' i k) (hln : ∀ i k, ln i k = ln' i k) (j : Fin 1024) :
    tailRow o y x p wo w1 w2 ln j = tailRow o' y' x' p' wo' w1' w2' ln' j := by
  obtain rfl := funext ho; obtain rfl := funext hy; obtain rfl := funext hx
  obtain rfl := funext fun i => funext (hp i)
  obtain rfl := funext fun i => funext (hwo i)
  obtain rfl := funext fun i => funext (hw1 i)
  obtain rfl := funext fun i => funext (hw2 i)
  obtain rfl := funext fun i => funext (hln i)
  rfl

end Cert.Rows
-- ==== Proof.TailKernel.lean ====
/-
  The tail kernel's payloads read at an index: each is a row function of the loaded blocks.
-/
module

public import proofs.«01_k».proof.Proof.Gen.TailIdeal.Skeleton
public import proofs.«01_k».proof.Proof.Rows

@[expose] public section

set_option maxRecDepth 16384

noncomputable section

namespace Cert.TailIdeal.RefValue

open Cert.TailIdeal Cert.TailIdeal.Gen Idealize.ShloMosaic Idealize.ShloMosaic.TcCoe Cert.Rows

/-- The first residual sum, row `r` of the block. -/
abbrev res1 (v0 : Vec Ideal S1x256x512 .bf16) (v2 : Vec Ideal S512x1024 .bf16) (v5 : Vec Ideal S1x256x512 .bf16)
    (v7 : Vec Ideal S512x1024 .bf16) (v11 : Vec Ideal S1x1x1024 .f32) (v15 : Vec Ideal S1x256x1024 .f32) (r : Fin 256) :
    Fin 1024 → EReal :=
  residual (fun j => v15 (ix3 0 r j)) (fun j => v11 (ix3 0 0 j)) fun j =>
    dot (fun k => v0 (ix3 0 r k)) (fun k j => v2 (ix2 k j)) j + dot (fun k => v5 (ix3 0 r k)) (fun k j => v7 (ix2 k j)) j

/-- The first residual sum, centred. -/
theorem pay3_apply (v0 : Vec Ideal S1x256x512 .bf16) (v2 : Vec Ideal S512x1024 .bf16) (v5 : Vec Ideal S1x256x512 .bf16)
    (v7 : Vec Ideal S512x1024 .bf16) (v11 : Vec Ideal S1x1x1024 .f32) (v15 : Vec Ideal S1x256x1024 .f32)
    (r : Fin 256) (j : Fin 1024) :
    k0_pay3 v0 v2 v5 v7 v11 v15 (ix2 r j) = center (res1 v0 v2 v5 v7 v11 v15 r) j := by
  pointwise [k0_pay3]

/-- The sum of its squares. -/
theorem pay4_apply (v0 : Vec Ideal S1x256x512 .bf16) (v2 : Vec Ideal S512x1024 .bf16) (v5 : Vec Ideal S1x256x512 .bf16)
    (v7 : Vec Ideal S512x1024 .bf16) (v11 : Vec Ideal S1x1x1024 .f32) (v15 : Vec Ideal S1x256x1024 .f32) (r : Fin 256) :
    k0_pay4 v0 v2 v5 v7 v11 v15 (ix2 r 0)
      = ∑ k, center (res1 v0 v2 v5 v7 v11 v15 r) k * center (res1 v0 v2 v5 v7 v11 v15 r) k := by
  pointwise [k0_pay4]
  simp only [pay3_apply]

/-- The first normalization, scaled and shifted. -/
theorem pay6_apply (v27 : FVec Ideal S256x1024 .f32) (v30 : FVec Ideal S256x1 .f32) (v38 v42 : Vec Ideal S1x1024 .f32)
    (x : Fin 1024 → EReal) (r : Fin 256) (h27 : ∀ j, v27 (ix2 r j) = center x j)
    (h30 : v30 (ix2 r 0) = ∑ k, center x k * center x k) (j : Fin 1024) :
    k0_pay6 v27 v30 k0_pay5 v38 v42 (ix2 r j) = affine (fun j => v38 (ix2 0 j)) (fun j => v42 (ix2 0 j)) x j := by
  pointwise [k0_pay6, k0_pay5]
  rw [h27, h30]

/-- The second normalization, modulated. -/
theorem pay7_apply (v27 : FVec Ideal S256x1024 .f32) (v30 v31 : FVec Ideal S256x1 .f32) (v38 v42 : Vec Ideal S1x1024 .f32)
    (v46 v48 : Vec Ideal S1x1x1024 .f32) (x : Fin 1024 → EReal) (r : Fin 256)
    (h : ∀ j, k0_pay6 v27 v30 v31 v38 v42 (ix2 r j) = x j) (j : Fin 1024) :
    k0_pay7 v27 v30 v31 v38 v42 v46 v48 (ix2 r j)
      = modulate (fun j => v46 (ix3 0 0 j)) (fun j => v48 (ix3 0 0 j)) x j := by
  pointwise [k0_pay7]
  simp only [h]

/-- The feed-forward's residual sum, normalized. -/
theorem pay8_apply (v14 : FVec Ideal S1x1024 .f32) (v45 : FVec Ideal S256x1024 .f32) (v72 : FVec Ideal S256x1024 .bf16)
    (v73 v76 : Vec Ideal S1024x2816 .bf16) (v89 : Vec Ideal S2816x1024 .bf16) (r : Fin 256) (j : Fin 1024) :
    k0_pay8 v14 v45 v72 v73 v76 v89 (ix2 r j)
      = norm (residual (fun j => v45 (ix2 r j)) (fun j => v14 (ix2 0 j))
          (ffn (fun k j => v73 (ix2 k j)) (fun k j => v76 (ix2 k j)) (fun k j => v89 (ix2 k j)) fun j => v72 (ix2 r j))) j := by
  pointwise [k0_pay8]
  simp only [zero_sub]

/-- The last normalization, scaled and shifted. -/
theorem pay1_apply (v112 : FVec Ideal S256x1024 .f32) (v114 : FVec Ideal S1x1024 .f32) (v117 : Vec Ideal S1x1024 .f32)
    (r : Fin 256) (j : Fin 1024) :
    k0_pay1 v112 v114 v117 (ix3 0 r j) = v112 (ix2 r j) * v114 (ix2 0 j) + v117 (ix2 0 j) := by
  pointwise [k0_pay1]

/-- The gate of the feed-forward, read along its row. -/
theorem pay2_apply (v13 : Vec Ideal S1x1x1024 .f32) (j : Fin 1024) : k0_pay2 v13 (ix2 0 j) = v13 (ix3 0 0 j) := by
  pointwise [k0_pay2]

/-- The last normalization's scale, read along its row. -/
theorem pay9_apply (v113 : Vec Ideal S1x1024 .f32) (j : Fin 1024) : k0_pay9 v113 (ix2 0 j) = v113 (ix2 0 j) := by
  pointwise [k0_pay9]

end Cert.TailIdeal.RefValue
-- ==== Proof.Loads.lean ====
/-
  A load through a unit rectangle read at an index: the buffer at the rectangle's offset plus the index.
-/
module

public import Idealize.ShloMosaic.Lib.Pipeline.ValueKit

@[expose] public section

set_option maxRecDepth 16384

noncomputable section

namespace Cert.Loads

open Idealize.ShloMosaic

/-- A load through a unit rectangle of a matrix, read at an index. -/
theorem ld2 {n0 n1 k0 k1 : ℕ} {φ : EltTy} (x : Vec Ideal ⟨2, ![n0, n1]⟩ φ) (o0 o1 : ℕ) (inb)
    (i : Fin k0) (j : Fin k1) (i' : Fin n0) (j' : Fin n1) (hi : i'.val = o0 + i.val) (hj : j'.val = o1 + j.val) :
    View.ld x (Rect.unit (s := ⟨2, ![n0, n1]⟩) ![o0, o1] ![k0, k1] inb) (ix2 i j) = x (ix2 i' j') := by
  refine congrArg x (funext fun a => Fin.ext ?_)
  rw [Rect.idx_unit_val]
  fin_cases a
  · exact hi.symm
  · exact hj.symm

/-- A load through a unit rectangle of a rank-3 array, read at an index. -/
theorem ld3 {n0 n1 n2 k0 k1 k2 : ℕ} {φ : EltTy} (x : Vec Ideal ⟨3, ![n0, n1, n2]⟩ φ) (o0 o1 o2 : ℕ) (inb)
    (i : Fin k0) (j : Fin k1) (l : Fin k2) (i' : Fin n0) (j' : Fin n1) (l' : Fin n2) (hi : i'.val = o0 + i.val)
    (hj : j'.val = o1 + j.val) (hl : l'.val = o2 + l.val) :
    View.ld x (Rect.unit (s := ⟨3, ![n0, n1, n2]⟩) ![o0, o1, o2] ![k0, k1, k2] inb) (ix3 i j l) = x (ix3 i' j' l') := by
  refine congrArg x (funext fun a => Fin.ext ?_)
  rw [Rect.idx_unit_val]
  fin_cases a
  · exact hi.symm
  · exact hj.symm
  · exact hl.symm

end Cert.Loads
-- ==== Proof.TailBlock.lean ====
/-
  The block the tail kernel stores, read at an index: the tail's row function of the input blocks' rows.
-/
module

public import proofs.«01_k».proof.Proof.Gen.TailIdeal.Frame
public import proofs.«01_k».proof.Proof.TailKernel
public import proofs.«01_k».proof.Proof.Loads
public import Idealize.ShloMosaic.Lib.Pipeline.ValueKit

@[expose] public section

set_option maxRecDepth 16384

noncomputable section

namespace Cert.TailIdeal.RefValue

open Cert.TailIdeal Cert.TailIdeal.Gen Idealize.ShloMosaic Idealize.ShloMosaic.TcCoe Cert.Rows

/-- Row `r` of the stored block is the tail's row function of row `r` of the token blocks, the modulation block, the
    three weights and the normalizations' stack. -/
theorem out_apply (x0 x1 : Vec Ideal S1x256x512 .bf16) (x2 : Vec Ideal S1x256x1024 .f32) (x3 : Vec Ideal S1x6x1024 .f32)
    (x4 : Vec Ideal S1024x1024 .bf16) (x5 : Vec Ideal S1024x5632 .bf16) (x6 : Vec Ideal S2816x1024 .bf16)
    (x7 : Vec Ideal S4x1024 .f32) (r : Fin 256) (j : Fin 1024) :
    out0_8 x0 x1 x2 x3 x4 x5 x6 x7 (ix3 0 r j)
      = tailRow (fun k => x0 (ix3 0 r k)) (fun k => x1 (ix3 0 r k)) (fun k => x2 (ix3 0 r k)) (fun p k => x3 (ix3 0 p k))
          (fun k j => x4 (ix2 k j)) (fun k j => x5 (ix2 k j)) (fun k j => x6 (ix2 k j)) (fun p k => x7 (ix2 p k)) j := by
  unfold_out out0_8
  frame_out
  have h45 := fun j => pay6_apply _ _ (View.ld x7 r0_6) (View.ld x7 r0_7) _ r
    (fun j => pay3_apply x0 (View.ld x4 r0_1) x1 (View.ld x4 r0_2) (View.ld x3 r0_3) x2 r j)
    (pay4_apply x0 (View.ld x4 r0_1) x1 (View.ld x4 r0_2) (View.ld x3 r0_3) x2 r) j
  have h72 := fun j => pay7_apply _ _ _ (View.ld x7 r0_6) (View.ld x7 r0_7) (View.ld x3 r0_8) (View.ld x3 r0_9) _ r h45 j
  rw [pay1_apply, pay8_apply, pay9_apply]
  simp only [h45, h72, pay2_apply]
  have e3 (j : Fin 1024) : View.ld x3 r0_3 (ix3 0 0 j) = x3 (ix3 0 2 j) :=
    Cert.Loads.ld3 x3 _ _ _ _ _ _ _ _ _ _ (by simp) (by simp) (by simp)
  have e4 (j : Fin 1024) : View.ld x3 r0_4 (ix3 0 0 j) = x3 (ix3 0 5 j) :=
    Cert.Loads.ld3 x3 _ _ _ _ _ _ _ _ _ _ (by simp) (by simp) (by simp)
  have e8 (j : Fin 1024) : View.ld x3 r0_8 (ix3 0 0 j) = x3 (ix3 0 3 j) :=
    Cert.Loads.ld3 x3 _ _ _ _ _ _ _ _ _ _ (by simp) (by simp) (by simp)
  have e9 (j : Fin 1024) : View.ld x3 r0_9 (ix3 0 0 j) = x3 (ix3 0 4 j) :=
    Cert.Loads.ld3 x3 _ _ _ _ _ _ _ _ _ _ (by simp) (by simp) (by simp)
  have e6 (j : Fin 1024) : View.ld x7 r0_6 (ix2 0 j) = x7 (ix2 0 j) :=
    Cert.Loads.ld2 x7 _ _ _ _ _ _ _ (by simp) (by simp)
  have e7 (j : Fin 1024) : View.ld x7 r0_7 (ix2 0 j) = x7 (ix2 1 j) :=
    Cert.Loads.ld2 x7 _ _ _ _ _ _ _ (by simp) (by simp)
  have e13 (j : Fin 1024) : View.ld x7 r0_13 (ix2 0 j) = x7 (ix2 2 j) :=
    Cert.Loads.ld2 x7 _ _ _ _ _ _ _ (by simp) (by simp)
  have e14 (j : Fin 1024) : View.ld x7 r0_14 (ix2 0 j) = x7 (ix2 3 j) :=
    Cert.Loads.ld2 x7 _ _ _ _ _ _ _ (by simp) (by simp)
  have e1 (k : Fin 512) (j : Fin 1024) : View.ld x4 r0_1 (ix2 k j) = x4 (ix2 ⟨k.val, by omega⟩ j) :=
    Cert.Loads.ld2 x4 _ _ _ _ _ _ _ (by simp) (by simp)
  have e2 (k : Fin 512) (j : Fin 1024) : View.ld x4 r0_2 (ix2 k j) = x4 (ix2 ⟨512 + k.val, by omega⟩ j) :=
    Cert.Loads.ld2 x4 _ _ _ _ _ _ _ (by simp) (by simp)
  have e10 (k : Fin 1024) (j : Fin 2816) : View.ld x5 r0_10 (ix2 k j) = x5 (ix2 k ⟨j.val, by omega⟩) :=
    Cert.Loads.ld2 x5 _ _ _ _ _ _ _ (by simp) (by simp)
  have e11 (k : Fin 1024) (j : Fin 2816) : View.ld x5 r0_11 (ix2 k j) = x5 (ix2 k ⟨2816 + j.val, by omega⟩) :=
    Cert.Loads.ld2 x5 _ _ _ _ _ _ _ (by simp) (by simp)
  simp only [res1, e1, e2, e3, e4, e6, e7, e8, e9, e10, e11, e13, e14]
  rfl

end Cert.TailIdeal.RefValue
-- ==== Proof.TailRef.lean ====
/-
  The tail's reference, operation by operation, read as row functions of its arguments.
-/
module

public import proofs.«01_k».proof.Proof.Gen.TailRefIdeal.Read
public import proofs.«01_k».proof.Proof.Rows

@[expose] public section

set_option maxRecDepth 16384

noncomputable section

namespace Cert.TailRefIdeal.RefValue

open Cert.TailRefIdeal Cert.TailRefIdeal.Gen Cert.TailRefIdeal.Read Idealize.ShloMosaic Idealize.ShloMosaic.TcCoe Cert.Rows

/-- Piece 0 of the modulation, batch element `b`. -/
theorem mod0_apply (x3 : (⟨S24x6x1024, .f32⟩ : BufTy).Contents (Elt Ideal)) (b : Fin 16) (j : Fin 1024) :
    val_main_v2 x3 (ix3 b 0 j) = x3 (ix3 ⟨b.val, by omega⟩ 0 j) := by
  pointwise [val_main_v2, val_main_v1, val_main_v0]
  congr 1; idx_ext

/-- Piece 1 of the modulation, batch element `b`. -/
theorem mod1_apply (x3 : (⟨S24x6x1024, .f32⟩ : BufTy).Contents (Elt Ideal)) (b : Fin 16) (j : Fin 1024) :
    val_main_v3 x3 (ix3 b 0 j) = x3 (ix3 ⟨b.val, by omega⟩ 1 j) := by
  pointwise [val_main_v3, val_main_v1, val_main_v0]
  congr 1; idx_ext

/-- Piece 2 of the modulation, batch element `b`. -/
theorem mod2_apply (x3 : (⟨S24x6x1024, .f32⟩ : BufTy).Contents (Elt Ideal)) (b : Fin 16) (j : Fin 1024) :
    val_main_v4 x3 (ix3 b 0 j) = x3 (ix3 ⟨b.val, by omega⟩ 2 j) := by
  pointwise [val_main_v4, val_main_v1, val_main_v0]
  congr 1; idx_ext

/-- Piece 3 of the modulation, batch element `b`. -/
theorem mod3_apply (x3 : (⟨S24x6x1024, .f32⟩ : BufTy).Contents (Elt Ideal)) (b : Fin 16) (j : Fin 1024) :
    val_main_v5 x3 (ix3 b 0 j) = x3 (ix3 ⟨b.val, by omega⟩ 3 j) := by
  pointwise [val_main_v5, val_main_v1, val_main_v0]
  congr 1; idx_ext

/-- Piece 4 of the modulation, batch element `b`. -/
theorem mod4_apply (x3 : (⟨S24x6x1024, .f32⟩ : BufTy).Contents (Elt Ideal)) (b : Fin 16) (j : Fin 1024) :
    val_main_v6 x3 (ix3 b 0 j) = x3 (ix3 ⟨b.val, by omega⟩ 4 j) := by
  pointwise [val_main_v6, val_main_v1, val_main_v0]
  congr 1; idx_ext

/-- Piece 5 of the modulation, batch element `b`. -/
theorem mod5_apply (x3 : (⟨S24x6x1024, .f32⟩ : BufTy).Contents (Elt Ideal)) (b : Fin 16) (j : Fin 1024) :
    val_main_v7 x3 (ix3 b 0 j) = x3 (ix3 ⟨b.val, by omega⟩ 5 j) := by
  pointwise [val_main_v7, val_main_v1, val_main_v0]
  congr 1; idx_ext

/-- The first residual sum. -/
abbrev res1 (x0 : (⟨S16x4096x512, .bf16⟩ : BufTy).Contents (Elt Ideal)) (x1 : (⟨S16x4096x512, .bf16⟩ : BufTy).Contents (Elt Ideal)) (x2 : (⟨S16x4096x1024, .f32⟩ : BufTy).Contents (Elt Ideal)) (x3 : (⟨S24x6x1024, .f32⟩ : BufTy).Contents (Elt Ideal)) (x4 : (⟨S1x1024x1024, .f32⟩ : BufTy).Contents (Elt Ideal)) (b : Fin 16) (s : Fin 4096) : Fin 1024 → EReal :=
  residual (fun j => x2 (ix3 b s j)) (fun j => x3 (ix3 ⟨b.val, by omega⟩ 2 j)) fun j =>
    dot (fun k : Fin 512 => x0 (ix3 b s k)) (fun k j => x4 (ix3 0 ⟨k.val, by omega⟩ j)) j
      + dot (fun k : Fin 512 => x1 (ix3 b s k)) (fun k j => x4 (ix3 0 ⟨512 + k.val, by omega⟩ j)) j

theorem v17_apply (x0 : (⟨S16x4096x512, .bf16⟩ : BufTy).Contents (Elt Ideal)) (x1 : (⟨S16x4096x512, .bf16⟩ : BufTy).Contents (Elt Ideal)) (x2 : (⟨S16x4096x1024, .f32⟩ : BufTy).Contents (Elt Ideal)) (x3 : (⟨S24x6x1024, .f32⟩ : BufTy).Contents (Elt Ideal)) (x4 : (⟨S1x1024x1024, .f32⟩ : BufTy).Contents (Elt Ideal)) (b : Fin 16) (s : Fin 4096) (j : Fin 1024) :
    val_main_v17 x0 x1 x2 x3 x4 (ix3 b s j) = res1 x0 x1 x2 x3 x4 b s j := by
  pointwise [val_main_v8, val_main_v9, val_main_v10, val_main_v11, val_main_v12, val_main_v13, val_main_v14, val_main_v15, val_main_v16, val_main_v17, val_main_cst, Cert.TailRefIdeal.Value.fn_main_v10, mod2_apply]

/-- The first normalization, scaled and shifted. -/
theorem v43_apply (x0 : (⟨S16x4096x512, .bf16⟩ : BufTy).Contents (Elt Ideal)) (x1 : (⟨S16x4096x512, .bf16⟩ : BufTy).Contents (Elt Ideal)) (x2 : (⟨S16x4096x1024, .f32⟩ : BufTy).Contents (Elt Ideal)) (x3 : (⟨S24x6x1024, .f32⟩ : BufTy).Contents (Elt Ideal)) (x4 : (⟨S1x1024x1024, .f32⟩ : BufTy).Contents (Elt Ideal)) (x7 : (⟨S1x1024, .f32⟩ : BufTy).Contents (Elt Ideal)) (x8 : (⟨S1x1024, .f32⟩ : BufTy).Contents (Elt Ideal)) (b : Fin 16) (s : Fin 4096) (j : Fin 1024) :
    val_main_v43 x0 x1 x2 x3 x4 x7 x8 (ix3 b s j)
      = affine (fun j => x7 (ix2 0 j)) (fun j => x8 (ix2 0 j)) (fun j => val_main_v17 x0 x1 x2 x3 x4 (ix3 b s j)) j := by
  pointwise [val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_cst_0, val_main_cst_1, val_main_cst_2, val_main_cst_3, val_main_cst_4]

/-- The second normalization, modulated. -/
theorem v67_apply (x0 : (⟨S16x4096x512, .bf16⟩ : BufTy).Contents (Elt Ideal)) (x1 : (⟨S16x4096x512, .bf16⟩ : BufTy).Contents (Elt Ideal)) (x2 : (⟨S16x4096x1024, .f32⟩ : BufTy).Contents (Elt Ideal)) (x3 : (⟨S24x6x1024, .f32⟩ : BufTy).Contents (Elt Ideal)) (x4 : (⟨S1x1024x1024, .f32⟩ : BufTy).Contents (Elt Ideal)) (x7 : (⟨S1x1024, .f32⟩ : BufTy).Contents (Elt Ideal)) (x8 : (⟨S1x1024, .f32⟩ : BufTy).Contents (Elt Ideal)) (b : Fin 16) (s : Fin 4096) (j : Fin 1024) :
    val_main_v67 x0 x1 x2 x3 x4 x7 x8 (ix3 b s j)
      = modulate (fun j => x3 (ix3 ⟨b.val, by omega⟩ 3 j)) (fun j => x3 (ix3 ⟨b.val, by omega⟩ 4 j))
          (fun j => val_main_v43 x0 x1 x2 x3 x4 x7 x8 (ix3 b s j)) j := by
  pointwise [val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_cst_5, val_main_cst_6, val_main_cst_7, val_main_cst_8, val_main_cst_9, val_main_cst_10, mod3_apply, mod4_apply]

/-- The feed-forward's residual sum. -/
theorem v80_apply (x0 : (⟨S16x4096x512, .bf16⟩ : BufTy).Contents (Elt Ideal)) (x1 : (⟨S16x4096x512, .bf16⟩ : BufTy).Contents (Elt Ideal)) (x2 : (⟨S16x4096x1024, .f32⟩ : BufTy).Contents (Elt Ideal)) (x3 : (⟨S24x6x1024, .f32⟩ : BufTy).Contents (Elt Ideal)) (x4 : (⟨S1x1024x1024, .f32⟩ : BufTy).Contents (Elt Ideal)) (x5 : (⟨S1x1024x5632, .f32⟩ : BufTy).Contents (Elt Ideal)) (x6 : (⟨S1x2816x1024, .f32⟩ : BufTy).Contents (Elt Ideal)) (x7 : (⟨S1x1024, .f32⟩ : BufTy).Contents (Elt Ideal)) (x8 : (⟨S1x1024, .f32⟩ : BufTy).Contents (Elt Ideal)) (b : Fin 16) (s : Fin 4096) (j : Fin 1024) :
    val_main_v80 x0 x1 x2 x3 x4 x5 x6 x7 x8 (ix3 b s j)
      = residual (fun j => val_main_v43 x0 x1 x2 x3 x4 x7 x8 (ix3 b s j)) (fun j => x3 (ix3 ⟨b.val, by omega⟩ 5 j))
          (ffn (fun k j => x5 (ix3 0 k ⟨j.val, by omega⟩)) (fun k j => x5 (ix3 0 k ⟨2816 + j.val, by omega⟩))
            (fun k j => x6 (ix3 0 k j)) fun j => val_main_v67 x0 x1 x2 x3 x4 x7 x8 (ix3 b s j)) j := by
  pointwise [val_main_v68, val_main_v69, val_main_v70, val_main_v71, val_main_v72, val_main_v73, val_main_v74, val_main_v75, val_main_v76, val_main_v77, val_main_v78, val_main_v79, val_main_v80, val_main_cst_11, val_main_call0_cst, val_main_call0_cst_0, val_main_call0_v0, val_main_call0_v1, val_main_call0_v2, val_main_call0_v3, val_main_call0_v4, val_main_call0_v5, mod5_apply]

/-- The last normalization, scaled and shifted. -/
theorem v106_apply (x0 : (⟨S16x4096x512, .bf16⟩ : BufTy).Contents (Elt Ideal)) (x1 : (⟨S16x4096x512, .bf16⟩ : BufTy).Contents (Elt Ideal)) (x2 : (⟨S16x4096x1024, .f32⟩ : BufTy).Contents (Elt Ideal)) (x3 : (⟨S24x6x1024, .f32⟩ : BufTy).Contents (Elt Ideal)) (x4 : (⟨S1x1024x1024, .f32⟩ : BufTy).Contents (Elt Ideal)) (x5 : (⟨S1x1024x5632, .f32⟩ : BufTy).Contents (Elt Ideal)) (x6 : (⟨S1x2816x1024, .f32⟩ : BufTy).Contents (Elt Ideal)) (x7 : (⟨S1x1024, .f32⟩ : BufTy).Contents (Elt Ideal)) (x8 : (⟨S1x1024, .f32⟩ : BufTy).Contents (Elt Ideal)) (x9 : (⟨S1x1024, .f32⟩ : BufTy).Contents (Elt Ideal)) (x10 : (⟨S1x1024, .f32⟩ : BufTy).Contents (Elt Ideal)) (b : Fin 16) (s : Fin 4096) (j : Fin 1024) :
    val_main_v106 x0 x1 x2 x3 x4 x5 x6 x7 x8 x9 x10 (ix3 b s j)
      = affine (fun j => x9 (ix2 0 j)) (fun j => x10 (ix2 0 j))
          (fun j => val_main_v80 x0 x1 x2 x3 x4 x5 x6 x7 x8 (ix3 b s j)) j := by
  pointwise [val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_cst_12, val_main_cst_13, val_main_cst_14, val_main_cst_15, val_main_cst_16]

/-- The reference's result at a token is the tail's row function of the arguments' rows. -/
theorem tail_apply (x0 : (⟨S16x4096x512, .bf16⟩ : BufTy).Contents (Elt Ideal)) (x1 : (⟨S16x4096x512, .bf16⟩ : BufTy).Contents (Elt Ideal)) (x2 : (⟨S16x4096x1024, .f32⟩ : BufTy).Contents (Elt Ideal)) (x3 : (⟨S24x6x1024, .f32⟩ : BufTy).Contents (Elt Ideal)) (x4 : (⟨S1x1024x1024, .f32⟩ : BufTy).Contents (Elt Ideal)) (x5 : (⟨S1x1024x5632, .f32⟩ : BufTy).Contents (Elt Ideal)) (x6 : (⟨S1x2816x1024, .f32⟩ : BufTy).Contents (Elt Ideal)) (x7 : (⟨S1x1024, .f32⟩ : BufTy).Contents (Elt Ideal)) (x8 : (⟨S1x1024, .f32⟩ : BufTy).Contents (Elt Ideal)) (x9 : (⟨S1x1024, .f32⟩ : BufTy).Contents (Elt Ideal)) (x10 : (⟨S1x1024, .f32⟩ : BufTy).Contents (Elt Ideal)) (b : Fin 16) (s : Fin 4096) (j : Fin 1024) :
    val_main_v106 x0 x1 x2 x3 x4 x5 x6 x7 x8 x9 x10 (ix3 b s j)
      = tailRow (fun k => x0 (ix3 b s k)) (fun k => x1 (ix3 b s k)) (fun k => x2 (ix3 b s k))
          (fun p k => x3 (ix3 ⟨b.val, by omega⟩ p k)) (fun k j => x4 (ix3 0 k j)) (fun k j => x5 (ix3 0 k j))
          (fun k j => x6 (ix3 0 k j)) (fun p k => ![x7 (ix2 0 k), x8 (ix2 0 k), x9 (ix2 0 k), x10 (ix2 0 k)] p) j := by
  rw [v106_apply]
  simp only [v80_apply, v67_apply, v43_apply, v17_apply]
  rfl

end Cert.TailRefIdeal.RefValue
-- ==== Proof.TailStack.lean ====
/-
  The stack of the four normalization rows that the host prepares for the tail kernel, read at an index.
-/
module

public import proofs.«01_k».proof.Proof.Gen.TailIdeal.Frame
public import Idealize.ShloMosaic.Lib.Pipeline.ValueKit
public import Idealize.ShloMosaic.Lib.Claim

@[expose] public section

set_option maxRecDepth 16384

noncomputable section

namespace Cert.TailIdeal.RefValue

open Cert.TailIdeal Cert.TailIdeal.Gen Idealize.ShloMosaic Idealize.ShloMosaic.TcCoe
open Idealize.SL.Sem

variable (m : (ℓ : Loc nD τ sig) → Buf (Elt Ideal) ℓ)

/-- The concatenation of four rows, read at an index. -/
theorem concat_apply (a b c d : (⟨S1x1024, .f32⟩ : BufTy).Contents (Elt Ideal)) (i : Fin 4) (k : Fin 1024) :
    (concatenate S4x1024 0 [⟨S1x1024, a⟩, ⟨S1x1024, b⟩, ⟨S1x1024, c⟩, ⟨S1x1024, d⟩] concatenates_S1x1024_S1x1024_S1x1024_S1x1024_S4x1024_d0 :
        (⟨S4x1024, .f32⟩ : BufTy).Contents (Elt Ideal)) (ix2 i k)
      = ![a (ix2 0 k), b (ix2 0 k), c (ix2 0 k), d (ix2 0 k)] i := by
  fin_cases i <;> pointwise

/-- The stacking step's result, whatever the four rows' buffers hold. -/
theorem nary_apply (F : Valuation τ sig (Elt Ideal)) (hxs hy) (i : Fin 4) (k : Fin 1024) :
    (StableHlo.nary (τ := τ) ![main_v4, main_v5, main_v6, main_v7] main_v8 (fun u => (concatenate S4x1024 0 [⟨S1x1024, (u 0 : (⟨S1x1024, .f32⟩ : BufTy).Contents (Elt Ideal))⟩, ⟨S1x1024, (u 1 : (⟨S1x1024, .f32⟩ : BufTy).Contents (Elt Ideal))⟩, ⟨S1x1024, (u 2 : (⟨S1x1024, .f32⟩ : BufTy).Contents (Elt Ideal))⟩, ⟨S1x1024, (u 3 : (⟨S1x1024, .f32⟩ : BufTy).Contents (Elt Ideal))⟩] concatenates_S1x1024_S1x1024_S1x1024_S1x1024_S4x1024_d0 : (⟨S4x1024, .f32⟩ : BufTy).Contents (Elt Ideal))) hxs hy).result F (Proc.devRef .tc main_v8) (ix2 i k)
      = ![(F (Proc.devRef .tc main_v4) : (⟨S1x1024, .f32⟩ : BufTy).Contents (Elt Ideal)) (ix2 0 k),
          (F (Proc.devRef .tc main_v5) : (⟨S1x1024, .f32⟩ : BufTy).Contents (Elt Ideal)) (ix2 0 k),
          (F (Proc.devRef .tc main_v6) : (⟨S1x1024, .f32⟩ : BufTy).Contents (Elt Ideal)) (ix2 0 k),
          (F (Proc.devRef .tc main_v7) : (⟨S1x1024, .f32⟩ : BufTy).Contents (Elt Ideal)) (ix2 0 k)] i := by
  rw [StableHlo.nary4_result]
  exact concat_apply _ _ _ _ i k

/-- A row stripped of its leading unit axis and given it back, read at an index. -/
theorem row_apply (a : (⟨S1x1024, .f32⟩ : BufTy).Contents (Elt Ideal)) (k : Fin 1024) :
    (broadcastInDim S1x1024 ![1] bcast_S1024_S1x1024_1 (fun i => shapeCast S1024 a shapeCasts_S1x1024_S1024 i :
      (⟨S1024, .f32⟩ : BufTy).Contents (Elt Ideal)) : (⟨S1x1024, .f32⟩ : BufTy).Contents (Elt Ideal)) (ix2 0 k) = a (ix2 0 k) := by
  pointwise

/-- Vectors of four equal entries are equal. -/
theorem vec4_congr {a a' b b' c c' d d' : EReal} (ha : a = a') (hb : b = b') (hc : c = c') (hd : d = d') :
    ![a, b, c, d] = ![a', b', c', d'] := by
  rw [ha, hb, hc, hd]

/-- The region finds the four rows of the normalizations' stack, one argument each. -/
theorem stack_apply (c : Dev nD) (i : Fin 4) (k : Fin 1024) :
    V m c main_v8 (ix2 i k) = ![m ((c : Thread nD τ).loc main_arg7) (ix2 0 k), m ((c : Thread nD τ).loc main_arg8) (ix2 0 k),
      m ((c : Thread nD τ).loc main_arg9) (ix2 0 k), m ((c : Thread nD τ).loc main_arg10) (ix2 0 k)] i := by
  unfold V
  simp only [StableHlo.after_cons, StableHlo.after_nil]
  rw [StableHlo.unary_result_ne' _ _ _ _ (by decide), StableHlo.reshape_result_ne' _ _ _ _ _ (by decide),
    StableHlo.unary_result_ne' _ _ _ _ (by decide), StableHlo.reshape_result_ne' _ _ _ _ _ (by decide),
    StableHlo.unary_result_ne' _ _ _ _ (by decide), StableHlo.reshape_result_ne' _ _ _ _ _ (by decide),
    nary_apply]
  refine congrFun (vec4_congr ?_ ?_ ?_ ?_) i
  · refine Eq.trans ?_ (row_apply _ k)
    refine congrFun ?_ (ix2 0 k)
    rw [StableHlo.unary_result_ne' _ _ _ _ (by decide), StableHlo.unary_result_ne' _ _ _ _ (by decide),
      StableHlo.unary_result_ne' _ _ _ _ (by decide), StableHlo.unary_result, StableHlo.reshape_result_ne' _ _ _ _ _ (by decide),
      StableHlo.reshape_result_ne' _ _ _ _ _ (by decide), StableHlo.reshape_result_ne' _ _ _ _ _ (by decide), StableHlo.reshape_result]
    rfl
  · refine Eq.trans ?_ (row_apply _ k)
    refine congrFun ?_ (ix2 0 k)
    rw [StableHlo.unary_result_ne' _ _ _ _ (by decide), StableHlo.unary_result_ne' _ _ _ _ (by decide),
      StableHlo.unary_result, StableHlo.unary_result_ne' _ _ _ _ (by decide), StableHlo.reshape_result_ne' _ _ _ _ _ (by decide),
      StableHlo.reshape_result_ne' _ _ _ _ _ (by decide), StableHlo.reshape_result, StableHlo.reshape_result_ne' _ _ _ _ _ (by decide)]
    rfl
  · refine Eq.trans ?_ (row_apply _ k)
    refine congrFun ?_ (ix2 0 k)
    rw [StableHlo.unary_result_ne' _ _ _ _ (by decide), StableHlo.unary_result, StableHlo.unary_result_ne' _ _ _ _ (by decide),
      StableHlo.unary_result_ne' _ _ _ _ (by decide), StableHlo.reshape_result_ne' _ _ _ _ _ (by decide),
      StableHlo.reshape_result, StableHlo.reshape_result_ne' _ _ _ _ _ (by decide), StableHlo.reshape_result_ne' _ _ _ _ _ (by decide)]
    rfl
  · refine Eq.trans ?_ (row_apply _ k)
    refine congrFun ?_ (ix2 0 k)
    rw [StableHlo.unary_result, StableHlo.unary_result_ne' _ _ _ _ (by decide),
      StableHlo.unary_result_ne' _ _ _ _ (by decide), StableHlo.unary_result_ne' _ _ _ _ (by decide),
      StableHlo.reshape_result, StableHlo.reshape_result_ne' _ _ _ _ _ (by decide),
      StableHlo.reshape_result_ne' _ _ _ _ _ (by decide), StableHlo.reshape_result_ne' _ _ _ _ _ (by decide)]
    rfl

end Cert.TailIdeal.RefValue
-- ==== Proof.TailValue.lean ====
/-
  The tail kernel's result array is the reference's: every grid point writes its own block, and each row of it is the
  tail's row function of the arguments' rows.
-/
module

public import proofs.«01_k».proof.Proof.Gen.TailIdeal.Value
public import proofs.«01_k».proof.Proof.TailBlock
public import proofs.«01_k».proof.Proof.TailRef
public import proofs.«01_k».proof.Proof.TailStack
public import Idealize.ShloMosaic.Lib.Pipeline.ValueKit
public import Idealize.ShloMosaic.Lib.Claim

@[expose] public section

set_option maxRecDepth 16384

noncomputable section

namespace Cert.TailIdeal.RefValue

open Cert.TailIdeal Cert.TailIdeal.Gen Idealize.ShloMosaic Idealize.ShloMosaic.TcCoe Cert.Rows
open Idealize.SL.Sem
open Idealize.ShloMosaic.Pipeline (Dat)

variable (m : (ℓ : Loc nD τ sig) → Buf (Elt Ideal) ℓ)

/-- Every window's block index at every grid point. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, 0, 0]
    ∧ win0_4.index t = ![0, 0] ∧ win0_5.index t = ![0, 0] ∧ win0_6.index t = ![0, 0] ∧ win0_7.index t = ![0, 0]
    ∧ win0_8.index t = ![(grid0.coords t 0).val, (grid0.coords t 1).val, 0] :=
  (by decide +kernel : ∀ t : Fin grid0.N, _)

/-- What the body stores at an index of its block is the reference's value at the array index it sits at. -/
theorem point (c : Dev nD) (t : Fin cfg0.N) (y : S1x256x1024.Idx) :
    out0_8 (iblk m c 0 t) (iblk m c 1 t) (iblk m c 2 t) (iblk m c 3 t) (iblk m c 4 t) (iblk m c 5 t) (iblk m c 6 t) (iblk m c 7 t) y
      = Cert.TailRefIdeal.Read.val_main_v106 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (((cfg0.win 8).blk t).view.emb y) := by
  idx_vars y
  obtain rfl : y0 = 0 := Subsingleton.elim _ _
  have hb : (grid0.coords t 0).val < 16 := (grid0.coords t 0).isLt
  have hs : (grid0.coords t 1).val < 16 := (grid0.coords t 1).isLt
  have e : ((cfg0.win 8).blk t).view.emb (ix3 (0 : Fin 1) y1 y2 : S1x256x1024.Idx)
      = (ix3 (⟨(grid0.coords t 0).val, hb⟩ : Fin 16) (⟨(grid0.coords t 1).val * 256 + y1.val, by omega⟩ : Fin 4096) y2 : S16x4096x1024.Idx) := by
    blk_ext [idx t]
  refine (out_apply _ _ _ _ _ _ _ _ y1 y2).trans ?_
  refine Eq.trans ?_ ((congrArg _ e).trans (Cert.TailRefIdeal.RefValue.tail_apply _ _ _ _ _ _ _ _ _ _ _ _ _ _)).symm
  refine tailRow_congr (fun k => ?_) (fun k => ?_) (fun k => ?_) (fun i k => ?_) (fun i k => ?_) (fun i k => ?_) (fun i k => ?_) (fun i k => ?_) y2
  · blk_ext [iblk, V, idx t]
  · blk_ext [iblk, V, idx t]
  · blk_ext [iblk, V, idx t]
  · blk_ext [iblk, V, idx t]
  · blk_point [iblk, V, idx t]
  · blk_point [iblk, V, idx t]
  · blk_point [iblk, V, idx t]
  · refine Eq.trans ?_ (stack_apply m c i k)
    blk_ext [iblk, idx t]

/-- The result array after the run is the reference's composed term over the kernel's arguments. -/
theorem final (c : Dev nD) : (dats m 0 c).arrAt 8 cfg0.N
    = Cert.TailRefIdeal.Read.val_main_v106 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  refine (dats m 0 c).arrAt_eq_of_covers 8 _ (by decide +kernel) fun t _ y => ?_
  blk_simp
  rw [after0_8]
  exact point m c t y

end Cert.TailIdeal.RefValue
-- ==== Proof.TailClaims.lean ====
/-
  The tail's claims: both kernel programs and the reference run and leave their arguments alone, and the kernel's
  result array is the reference's.
-/
module

public import proofs.«01_k».proof.Defs
public import proofs.«01_k».proof.Proof.Gen.Tail.Frame
public import proofs.«01_k».proof.Proof.Gen.TailRefIdeal.Run
public import proofs.«01_k».proof.Proof.TailValue

@[expose] public section

set_option maxRecDepth 16384

noncomputable section

namespace Cert.TailClaims

open Idealize.ShloMosaic Idealize.ShloMosaic.TcCoe Idealize.SL.Sem

/-- The tail kernel runs over machine numbers and leaves its arguments alone. -/
theorem frame_kernel : letI := Cert.Tail.Gen.facts; Cert.quiescent_Tail := fun m ρ _ => Cert.Tail.Gen.frame m ρ

/-- The tail kernel runs over the extended reals and leaves its arguments alone. -/
theorem frame_ideal : letI := Cert.TailIdeal.Gen.facts; Cert.quiescent_TailIdeal := fun m ρ _ => Cert.TailIdeal.Gen.frame m ρ

/-- The tail's reference runs over the extended reals and leaves its arguments alone. -/
theorem frame_reference : letI := Cert.TailRefIdeal.Gen.facts; Cert.quiescent_TailRefIdeal := fun m ρ _ =>
  (θ_run Cert.TailRefIdeal.defs _ _).mono
    (fun r h => ⟨fun c => (h c).2, Idealize.ShloMosaic.sem_eq_zero_of_no_sems (by decide) r.2⟩)
    (Cert.TailRefIdeal.Value.run (F := Ideal) m ρ)

/-- From equal arguments the tail kernel and its reference end with equal results. -/
theorem value : letI := Cert.TailIdeal.Gen.facts; letI := Cert.TailRefIdeal.Gen.facts; Cert.algebraic_TailIdeal_TailRefIdeal :=
  fun m ρ m' ρ' _ hag => ⟨_, Cert.TailIdeal.Value.run_blocks (F := Ideal) m ρ,
    (θ_run Cert.TailRefIdeal.defs _ _).mono (fun r h c => ⟨(h c).1.trans (by
      rw [Cert.TailIdeal.RefValue.final m c, Cert.TailRefIdeal.Read.val_main_v106_eq]
      show Cert.TailRefIdeal.Read.val_main_v106 (F := Ideal) (m' ((c.tc : Thread Cert.TailRefIdeal.nD Cert.TailRefIdeal.τ).loc Cert.TailRefIdeal.main_arg0)) (m' ((c.tc : Thread Cert.TailRefIdeal.nD Cert.TailRefIdeal.τ).loc Cert.TailRefIdeal.main_arg1)) (m' ((c.tc : Thread Cert.TailRefIdeal.nD Cert.TailRefIdeal.τ).loc Cert.TailRefIdeal.main_arg2)) (m' ((c.tc : Thread Cert.TailRefIdeal.nD Cert.TailRefIdeal.τ).loc Cert.TailRefIdeal.main_arg3)) (m' ((c.tc : Thread Cert.TailRefIdeal.nD Cert.TailRefIdeal.τ).loc Cert.TailRefIdeal.main_arg4)) (m' ((c.tc : Thread Cert.TailRefIdeal.nD Cert.TailRefIdeal.τ).loc Cert.TailRefIdeal.main_arg5)) (m' ((c.tc : Thread Cert.TailRefIdeal.nD Cert.TailRefIdeal.τ).loc Cert.TailRefIdeal.main_arg6)) (m' ((c.tc : Thread Cert.TailRefIdeal.nD Cert.TailRefIdeal.τ).loc Cert.TailRefIdeal.main_arg7)) (m' ((c.tc : Thread Cert.TailRefIdeal.nD Cert.TailRefIdeal.τ).loc Cert.TailRefIdeal.main_arg8)) (m' ((c.tc : Thread Cert.TailRefIdeal.nD Cert.TailRefIdeal.τ).loc Cert.TailRefIdeal.main_arg9)) (m' ((c.tc : Thread Cert.TailRefIdeal.nD Cert.TailRefIdeal.τ).loc Cert.TailRefIdeal.main_arg10)) = _
      obtain ⟨h0, h1, h2, h3, h4, h5, h6, h7, h8, h9, h10⟩ := hag c
      rw [h0, h1, h2, h3, h4, h5, h6, h7, h8, h9, h10]), (h c).2⟩)
      (Cert.TailRefIdeal.Value.run (F := Ideal) m' ρ')⟩

end Cert.TailClaims
-- ==== Proof.AttnFinite.lean ====
/-
  What the attention's precondition gives: every entry of the arguments it names is a real number.
-/
module

public import proofs.«01_k».proof.Defs
public import Idealize.ShloMosaic.Lib.ReduceAll
public import Idealize.ShloMosaic.PureOps.Ideal

@[expose] public section

set_option maxRecDepth 16384

noncomputable section

namespace Cert.AttnFinite

open Idealize.ShloMosaic Idealize.ShloMosaic.TcCoe Cert.Pre_finite_attn

/-- An extended real whose absolute value is below plus infinity is real. -/
theorem real_of_lt (x : EReal) (h : Ideal.cmp .olt (max x (-x)) ⊤ = 1#1) : ∃ r : ℝ, x = r := by
  have h' : max x (-x) < ⊤ := by
    by_contra hn
    simp [Ideal.cmp, hn] at h
  induction x with
  | bot => simp at h'
  | top => simp at h'
  | coe r => exact ⟨r, rfl⟩

/-- The word of plus infinity, single precision. -/
theorem inf32 : Ideal.ofBits FTy.f32 0x7F800000#32 = ⊤ := by simp [Ideal.ofBits, Ideal.ieee]

/-- The word of plus infinity, half precision. -/
theorem inf16 : Ideal.ofBits FTy.bf16 0x7F80#16 = ⊤ := by simp [Ideal.ofBits, Ideal.ieee]

instance : Subsingleton S_.Idx := ⟨fun a b => funext fun i => i.elim0⟩

variable [Facts]

/-- Every entry of the seven arguments the precondition names is real. -/
theorem entries (x0 x1 : FVec Ideal S1x2x64 .f32) (x2 : FVec Ideal S1x128 .f32) (x3 x4 : FVec Ideal S16x4096x512 .bf16)
    (x5 : FVec Ideal S16x256x512 .bf16) (x6 : FVec Ideal S16x4096x512 .bf16) (x7 : FVec Ideal S16x256x512 .bf16)
    (h : fn (F := Ideal) x0 x1 x2 x3 x4 x5 x6 x7 = fun _ => 1#1) :
    (∀ i, ∃ r : ℝ, x0 i = r) ∧ (∀ i, ∃ r : ℝ, x1 i = r) ∧ (∀ i, ∃ r : ℝ, x3 i = r) ∧ (∀ i, ∃ r : ℝ, x4 i = r)
      ∧ (∀ i, ∃ r : ℝ, x5 i = r) ∧ (∀ i, ∃ r : ℝ, x6 i = r) ∧ (∀ i, ∃ r : ℝ, x7 i = r) := by
  have e := congrFun h fun a => a.elim0
  unfold fn fn_part1 at e
  dsimp only [andi] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e1⟩ := IntOp.andi_eq_one.1 e
  refine ⟨fun i => real_of_lt _ ?_, fun i => real_of_lt _ ?_, fun i => real_of_lt _ ?_, fun i => real_of_lt _ ?_,
    fun i => real_of_lt _ ?_, fun i => real_of_lt _ ?_, fun i => real_of_lt _ ?_⟩
  · rw [← inf32]; exact Host.reduce_andi_all _ _ _ _ _ e0 i
  · rw [← inf32]; exact Host.reduce_andi_all _ _ _ _ _ e1 i
  · rw [← inf16]; exact Host.reduce_andi_all _ _ _ _ _ e3 i
  · rw [← inf16]; exact Host.reduce_andi_all _ _ _ _ _ e4 i
  · rw [← inf16]; exact Host.reduce_andi_all _ _ _ _ _ e5 i
  · rw [← inf16]; exact Host.reduce_andi_all _ _ _ _ _ e6 i
  · rw [← inf16]; exact Host.reduce_andi_all _ _ _ _ _ e7 i

end Cert.AttnFinite
-- ==== Proof.AttnTrip.lean ====
module

public import proofs.«01_k».proof.Proof.Gen.AttnIdeal.Frame
public import Idealize.ShloMosaic.Lib.Pipeline.ValueKit

@[expose] public section

set_option maxRecDepth 16384

/-! One trip of the attention kernel's loop over the latent keys, as the pieces it stores. -/

noncomputable section
namespace Cert.AttnIdeal.RefValue

open Cert.AttnIdeal Cert.AttnIdeal.Gen Idealize.ShloMosaic Idealize.ShloMosaic.TcCoe

/-- The rectangle of the maximum's and the normaliser's scratch that belongs to one of the two maps. -/
abbrev rm0 : Rect S2x512x1 := Rect.unit (s := S2x512x1) ![0, 0, 0] ![1, 512, 1] (by decide)
abbrev rm1 : Rect S2x512x1 := Rect.unit (s := S2x512x1) ![1, 0, 0] ![1, 512, 1] (by decide)
/-- The rectangle of the accumulator that belongs to one of the two maps. -/
abbrev ra0 : Rect S2x512x128 := Rect.unit (s := S2x512x128) ![0, 0, 0] ![1, 512, 128] (by decide)
abbrev ra1 : Rect S2x512x128 := Rect.unit (s := S2x512x128) ![1, 0, 0] ![1, 512, 128] (by decide)
/-- The rows of the keys and of the values a trip reads. -/
abbrev rk (k : Fin k0_t1_loop.trips) : Rect S1x4096x128 := Rect.unit (s := S1x4096x128) (k0_off1 k) S1x512x128.size (k0_off1_inb k)

/-- The pieces a trip stores: for each of the two maps the new maximum, normaliser and accumulator,
computed from the old ones and from the trip's keys and values. -/
theorem trip_pieces (𝒱 : Variants) (c : Dev nD) (bd : Option 𝒱.V) (i : grid0.Coords)
    (arg3 : Memref sig .tc .vmem S2x64 .f32) (harg3 : arg3.IsWhole) (arg4 : Memref sig .tc .vmem S2x64 .f32) (harg4 : arg4.IsWhole) (arg5 : Memref sig .tc .vmem S1x128 .f32) (harg5 : arg5.IsWhole) (arg6 : Memref sig .tc .vmem S1x512x128 .bf16) (harg6 : arg6.IsWhole)
    (arg7 : Memref sig .tc .vmem S1x4096x128 .bf16) (harg7 : arg7.IsWhole) (arg8 : Memref sig .tc .vmem S1x256x128 .bf16) (harg8 : arg8.IsWhole) (arg9 : Memref sig .tc .vmem S1x4096x128 .bf16) (harg9 : arg9.IsWhole) (arg10 : Memref sig .tc .vmem S1x256x128 .bf16) (harg10 : arg10.IsWhole)
    (arg11 : Memref sig .tc .vmem S1x512x128 .bf16) (harg11 : arg11.IsWhole) (arg12 : Memref sig .tc .vmem S2x512x1 .f32) (harg12 : arg12.IsWhole) (arg13 : Memref sig .tc .vmem S2x512x1 .f32) (harg13 : arg13.IsWhole) (arg14 : Memref sig .tc .vmem S2x512x128 .f32) (harg14 : arg14.IsWhole)
    (v0 : Vec Ideal S1x512x128 .bf16) (X7 : BufTy.Contents (Elt Ideal) arg7.view.ty) (X9 : BufTy.Contents (Elt Ideal) arg9.view.ty)
    (k : Fin k0_t1_loop.trips) (f12 : BufTy.Contents (Elt Ideal) arg12.view.ty) (f13 : BufTy.Contents (Elt Ideal) arg13.view.ty)
    (f14 : BufTy.Contents (Elt Ideal) arg14.view.ty) :
    tripL_k0_t1 (F := Ideal) 𝒱 c bd i arg3 harg3 arg4 harg4 arg5 harg5 arg6 harg6 arg7 harg7 arg8 harg8 arg9 harg9 arg10 harg10 arg11 harg11 arg12 harg12 arg13 harg13 arg14 harg14 v0 X7 X9 k f12 f13 f14 =
      (let K := arg7.view.readAt (Elt Ideal) (rk k).toLoadRect X7
       let V := arg9.view.readAt (Elt Ideal) (rk k).toLoadRect X9
       let m0 := arg12.view.readAt (Elt Ideal) rm0.toLoadRect f12
       let m1 := arg12.view.readAt (Elt Ideal) rm1.toLoadRect f12
       let l0 := arg13.view.readAt (Elt Ideal) rm0.toLoadRect f13
       let l1 := arg13.view.readAt (Elt Ideal) rm1.toLoadRect f13
       let a0 := arg14.view.readAt (Elt Ideal) ra0.toLoadRect f14
       let a1 := arg14.view.readAt (Elt Ideal) ra1.toLoadRect f14
       ([⟨rm1, k0_pay28 (k0_pay15 (k0_pay23 v0) (k0_pay2 K) m1)⟩, ⟨rm0, k0_pay12 (k0_pay6 (k0_pay22 v0) K m0)⟩],
        [⟨rm1, k0_pay18 (k0_pay23 v0) (k0_pay2 K) m1 l1⟩, ⟨rm0, k0_pay9 (k0_pay22 v0) K m0 l0⟩],
        [⟨ra1, k0_pay27 (k0_pay19 (k0_pay23 v0) (k0_pay2 K) (k0_pay3 V) m1 a1)⟩,
         ⟨ra0, k0_pay11 (k0_pay10 (k0_pay22 v0) K V m0 a0)⟩])) := by
  unfold tripL_k0_t1 trip_k0_t1
  dsimp only
  sl_unfold_words
  rfl

end Cert.AttnIdeal.RefValue
-- ==== Proof.Online.lean ====
module

public import Idealize.ShloMosaic.PureOps.Ideal
public import Idealize.ShloMosaic.Lib.Pipeline.ValueKit

@[expose] public section

/-! The running softmax on real numbers: a maximum, a normaliser and a weighted sum, each carried
from one block of keys to the next, and the plain softmax they come to. Scores count in base two. -/

noncomputable section
namespace Cert.Online

open Idealize.ShloMosaic

/-- A finite sum of real numbers, each seen as an extended real, is the sum seen as one. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of a real number and finitely many reals, started from minus infinity, is real. -/
theorem max_fold_real {ι : Type} (t : Finset ι) (m : ℝ) (s : ι → EReal) (sr : ι → ℝ) (hs : ∀ j, s j = sr j) :
    ∃ M : ℝ, max (m : EReal) (t.fold max ⊥ s) = M := by
  classical
  induction t using Finset.induction_on with
  | empty => exact ⟨m, by simp⟩
  | insert a t ha ih =>
    obtain ⟨M, hM⟩ := ih
    refine ⟨max M (sr a), ?_⟩
    rw [Finset.fold_insert ha, max_left_comm, hM, hs, Monotone.map_max EReal.coe_strictMono.monotone, max_comm]

/-- The maximum of a nonempty finite set of reals, started from minus infinity, is real. -/
theorem fold_real_mem {ι : Type} (t : Finset ι) (i : ι) (hi : i ∈ t) (s : ι → EReal) (sr : ι → ℝ) (hs : ∀ j, s j = sr j) :
    ∃ M : ℝ, t.fold max (⊥ : EReal) s = M := by
  obtain ⟨M, hM⟩ := max_fold_real t (sr i) s sr hs
  refine ⟨M, ?_⟩
  rw [← hM, ← hs i]
  refine (max_eq_right ?_).symm
  rw [Finset.le_fold_max]
  exact Or.inr ⟨i, hi, le_rfl⟩

/-- The maximum of at least one real number, started from minus infinity, is real. -/
theorem fold_real {n : ℕ} (s : Fin (n + 1) → EReal) (sr : Fin (n + 1) → ℝ) (hs : ∀ j, s j = sr j) :
    ∃ M : ℝ, Finset.univ.fold max (⊥ : EReal) s = M := by
  exact fold_real_mem Finset.univ 0 (Finset.mem_univ _) s sr hs

/-- Two to a real power. -/
theorem exp2_sub (a b : ℝ) : Ideal.exp2 ((a : EReal) - (b : EReal)) = (((2 : ℝ) ^ (a - b) : ℝ) : EReal) := by
  rw [← EReal.coe_sub, Ideal.exp2_coe]; rfl

/-- The carried state after some keys: the maximum `m`, the normaliser `l` and the weighted sums
`acc` are real, and scaled back by `2^m` the last two are the sum `P` of the weights seen and the
sums `Q` of the weighted values seen. -/
def Inv {ν : Type} (m l : EReal) (acc : ν → EReal) (P : ℝ) (Q : ν → ℝ) : Prop :=
  ∃ (mr lr : ℝ) (ar : ν → ℝ), m = mr ∧ l = lr ∧ (∀ d, acc d = ar d) ∧
    lr * 2 ^ mr = P ∧ ∀ d, ar d * 2 ^ mr = Q d

/-- The state before any key. -/
theorem Inv.start {ν : Type} {m l : EReal} {acc : ν → EReal} (mr : ℝ) (hm : m = mr) (hl : l = 0)
    (ha : ∀ d, acc d = 0) : Inv m l acc 0 (fun _ => 0) :=
  ⟨mr, 0, fun _ => 0, hm, by simpa using hl, fun d => by simpa using ha d, by simp, by simp⟩

/-- One block of keys: the new maximum, and the old normaliser and sums rescaled to it with the
block's own weights added. -/
theorem Inv.step {ν : Type} {n : ℕ} {m l : EReal} {acc : ν → EReal} {P : ℝ} {Q : ν → ℝ} (h : Inv m l acc P Q)
    (s : Fin n → EReal) (sr : Fin n → ℝ) (hs : ∀ j, s j = sr j)
    (v : Fin n → ν → EReal) (vr : Fin n → ν → ℝ) (hv : ∀ j d, v j d = vr j d)
    {m' l' : EReal} {acc' : ν → EReal} (hm' : m' = max m (Finset.univ.fold max ⊥ s))
    (hl' : l' = Ideal.exp2 (m - m') * l + ∑ j, Ideal.exp2 (s j - m'))
    (ha' : ∀ d, acc' d = Ideal.exp2 (m - m') * acc d + ∑ j, Ideal.exp2 (s j - m') * v j d) :
    Inv m' l' acc' (P + ∑ j, (2 : ℝ) ^ sr j) (fun d => Q d + ∑ j, (2 : ℝ) ^ sr j * vr j d) := by
  obtain ⟨mr, lr, ar, hm, hl, ha, hP, hQ⟩ := h
  obtain ⟨M, hM⟩ := max_fold_real Finset.univ mr s sr hs
  rw [← hm, ← hm'] at hM
  have two : (0 : ℝ) < 2 := by norm_num
  have e : ∀ a : ℝ, (2 : ℝ) ^ (a - M) * 2 ^ M = 2 ^ a := fun a => by
    rw [← Real.rpow_add two]; congr 1; ring
  refine ⟨M, (2 : ℝ) ^ (mr - M) * lr + ∑ j, (2 : ℝ) ^ (sr j - M),
    fun d => (2 : ℝ) ^ (mr - M) * ar d + ∑ j, (2 : ℝ) ^ (sr j - M) * vr j d, hM, ?_, fun d => ?_, ?_, fun d => ?_⟩
  · rw [hl', hM, hm, hl]
    simp only [hs, exp2_sub, coe_sum, EReal.coe_add, EReal.coe_mul]
  · rw [ha' d, hM, hm, ha d]
    simp only [hs, hv, exp2_sub, ← EReal.coe_mul, coe_sum, EReal.coe_add]
  · rw [add_mul, Finset.sum_mul]
    simp only [e]
    rw [← hP, ← e mr]; ring
  · show _ = Q d + ∑ j, (2 : ℝ) ^ sr j * vr j d
    rw [add_mul, Finset.sum_mul, ← hQ d, ← e mr]
    congr 1
    · ring
    · refine Finset.sum_congr rfl fun j _ => ?_
      rw [← e (sr j)]; ring

/-- The carried state's quotient is the weighted mean of the values. -/
theorem Inv.quotient {ν : Type} {m l : EReal} {acc : ν → EReal} {P : ℝ} {Q : ν → ℝ} (h : Inv m l acc P Q) (hP : 0 < P) (d : ν) :
    Ideal.div (acc d) l = ((Q d / P : ℝ) : EReal) := by
  obtain ⟨mr, lr, ar, hm, hl, ha, hp, hq⟩ := h
  have pos : (0 : ℝ) < 2 ^ mr := Real.rpow_pos_of_pos (by norm_num) _
  have hl0 : lr ≠ 0 := by rintro rfl; simp at hp; exact absurd hp.symm hP.ne'
  rw [ha, hl, ← hp, ← hq d, mul_div_mul_right _ _ pos.ne', Ideal.div_coe hl0, ← EReal.coe_mul, mul_one_div]

/-- The softmax as the reference writes it: the scores, turned to base e by the factor `ln 2`, less
their maximum, and the exponentials over their sum. -/
theorem softmax {n : ℕ} (s : Fin (n + 1) → EReal) (sr : Fin (n + 1) → ℝ) (hs : ∀ j, s j = sr j) (M : EReal)
    (hM : ∃ M' : ℝ, M = M') (j : Fin (n + 1)) :
    Ideal.div (Ideal.exp (s j * ((Real.log 2 : ℝ) : EReal) - M)) (∑ i, Ideal.exp (s i * ((Real.log 2 : ℝ) : EReal) - M))
      = ((2 ^ sr j / ∑ i, (2 : ℝ) ^ sr i : ℝ) : EReal) := by
  obtain ⟨M', rfl⟩ := hM
  have two : (0 : ℝ) < 2 := by norm_num
  have e : ∀ i, Ideal.exp (s i * ((Real.log 2 : ℝ) : EReal) - (M' : EReal)) = ((2 ^ sr i * Real.exp (-M') : ℝ) : EReal) := fun i => by
    rw [hs, ← EReal.coe_mul, ← EReal.coe_sub, Ideal.exp_coe, sub_eq_add_neg, Real.exp_add, Real.rpow_def_of_pos two,
      mul_comm (sr i)]
  have pos : (0 : ℝ) < ∑ i, (2 : ℝ) ^ sr i := Finset.sum_pos (fun i _ => Real.rpow_pos_of_pos two _) ⟨0, Finset.mem_univ _⟩
  have hz : (∑ i, (2 : ℝ) ^ sr i * Real.exp (-M')) ≠ 0 := by
    rw [← Finset.sum_mul]; exact (mul_pos pos (Real.exp_pos _)).ne'
  simp only [e, coe_sum]
  rw [Ideal.div_coe hz, ← EReal.coe_mul, mul_one_div, ← Finset.sum_mul, mul_div_mul_right _ _ (Real.exp_pos _).ne']

/-- The difference of two weighted means, taken key by key. -/
theorem mean_sub {n : ℕ} (lam : ℝ) (p0 p1 v : Fin n → ℝ) :
    ∑ j, ((v j : ℝ) : EReal) * ((p0 j : EReal) - (lam : EReal) * (p1 j : EReal))
      = ((∑ j, p0 j * v j : ℝ) : EReal) - (lam : EReal) * ((∑ j, p1 j * v j : ℝ) : EReal) := by
  simp only [← EReal.coe_mul, ← EReal.coe_sub, coe_sum]
  congr 1
  rw [Finset.mul_sum, ← Finset.sum_sub_distrib]
  exact Finset.sum_congr rfl fun j _ => by ring

end Cert.Online
-- ==== Proof.AttnStep.lean ====
module

public import proofs.«01_k».proof.Proof.Gen.AttnIdeal.Skeleton
public import proofs.«01_k».proof.Proof.Online
public import Idealize.ShloMosaic.Lib.Pipeline.ValueKit

@[expose] public section

set_option maxRecDepth 16384

/-! What the attention kernel computes from one block of keys, read at a query row: a step of the
running softmax. -/

noncomputable section
namespace Cert.AttnIdeal.RefValue

open Cert.AttnIdeal Cert.AttnIdeal.Gen Idealize.ShloMosaic Idealize.ShloMosaic.TcCoe

variable {P : ℝ} {Q : Fin 128 → ℝ}

/-- The word of minus infinity. -/
theorem neg_inf : Ideal.ofBits FTy.f32 4286578688#32 = ⊥ := by simp [Ideal.ofBits, Ideal.ieee]

/-- The score of a query row with real entries and a key with real entries is real. -/
theorem score_real {n : ℕ} (q k : Fin n → EReal) (qr kr : Fin n → ℝ) (hq : ∀ x, q x = qr x) (hk : ∀ x, k x = kr x) :
    ∑ x, q x * k x = ((∑ x, qr x * kr x : ℝ) : EReal) := by
  simp only [hq, hk, ← EReal.coe_mul, Online.coe_sum]

/-- A block of 512 latent keys, first map. -/
theorem trip0 (q : FVec Ideal S512x128 .bf16) (K V : Vec Ideal S1x512x128 .bf16) (m l : Vec Ideal S1x512x1 .f32)
    (a : Vec Ideal S1x512x128 .f32) (r : Fin 512) (qr : Fin 128 → ℝ) (kr vr : Fin 512 → Fin 128 → ℝ)
    (hq : ∀ x, q (ix2 r x) = qr x) (hK : ∀ j x, K (ix3 0 j x) = kr j x) (hV : ∀ j d, V (ix3 0 j d) = vr j d)
    (h : Online.Inv (m (ix3 0 r 0)) (l (ix3 0 r 0)) (fun d => a (ix3 0 r d)) P Q) :
    Online.Inv (k0_pay12 (k0_pay6 q K m) (ix3 0 r 0)) (k0_pay9 q K m l (ix3 0 r 0)) (fun d => k0_pay11 (k0_pay10 q K V m a) (ix3 0 r d))
      (P + ∑ j, (2 : ℝ) ^ (∑ x, qr x * kr j x)) (fun d => Q d + ∑ j, (2 : ℝ) ^ (∑ x, qr x * kr j x) * vr j d) := by
  have M : k0_pay12 (k0_pay6 q K m) (ix3 0 r 0) = max (m (ix3 0 r 0)) (Finset.univ.fold max ⊥ fun j => ∑ x, q (ix2 r x) * K (ix3 0 j x)) := by
    rw [← neg_inf]
    pointwise [k0_pay12, k0_pay6, k0_pay5, k0_pay4, k0_pay9, k0_pay8, k0_pay7, k0_pay11, k0_pay10, k0_pay2, k0_pay3]
  refine h.step (fun j => ∑ x, q (ix2 r x) * K (ix3 0 j x)) _ (fun j => score_real _ _ qr (kr j) hq (hK j))
    (fun j d => V (ix3 0 j d)) vr hV M ?_ fun d => ?_
  · rw [M, ← neg_inf]
    pointwise [k0_pay12, k0_pay6, k0_pay5, k0_pay4, k0_pay9, k0_pay8, k0_pay7, k0_pay11, k0_pay10, k0_pay2, k0_pay3]
    rfl
  · rw [M, ← neg_inf]
    pointwise [k0_pay12, k0_pay6, k0_pay5, k0_pay4, k0_pay9, k0_pay8, k0_pay7, k0_pay11, k0_pay10, k0_pay2, k0_pay3]
    rfl

/-- A block of 512 latent keys, second map. -/
theorem trip1 (q : FVec Ideal S512x128 .bf16) (K V : Vec Ideal S1x512x128 .bf16) (m l : Vec Ideal S1x512x1 .f32)
    (a : Vec Ideal S1x512x128 .f32) (r : Fin 512) (qr : Fin 128 → ℝ) (kr vr : Fin 512 → Fin 128 → ℝ)
    (hq : ∀ x, q (ix2 r x) = qr x) (hK : ∀ j x, K (ix3 0 j x) = kr j x) (hV : ∀ j d, V (ix3 0 j d) = vr j d)
    (h : Online.Inv (m (ix3 0 r 0)) (l (ix3 0 r 0)) (fun d => a (ix3 0 r d)) P Q) :
    Online.Inv (k0_pay28 (k0_pay15 q (k0_pay2 K) m) (ix3 0 r 0)) (k0_pay18 q (k0_pay2 K) m l (ix3 0 r 0)) (fun d => k0_pay27 (k0_pay19 q (k0_pay2 K) (k0_pay3 V) m a) (ix3 0 r d))
      (P + ∑ j, (2 : ℝ) ^ (∑ x, qr x * kr j x)) (fun d => Q d + ∑ j, (2 : ℝ) ^ (∑ x, qr x * kr j x) * vr j d) := by
  have M : k0_pay28 (k0_pay15 q (k0_pay2 K) m) (ix3 0 r 0) = max (m (ix3 0 r 0)) (Finset.univ.fold max ⊥ fun j => ∑ x, q (ix2 r x) * K (ix3 0 j x)) := by
    rw [← neg_inf]
    pointwise [k0_pay28, k0_pay15, k0_pay14, k0_pay13, k0_pay18, k0_pay17, k0_pay16, k0_pay27, k0_pay19, k0_pay2, k0_pay3]
  refine h.step (fun j => ∑ x, q (ix2 r x) * K (ix3 0 j x)) _ (fun j => score_real _ _ qr (kr j) hq (hK j))
    (fun j d => V (ix3 0 j d)) vr hV M ?_ fun d => ?_
  · rw [M, ← neg_inf]
    pointwise [k0_pay28, k0_pay15, k0_pay14, k0_pay13, k0_pay18, k0_pay17, k0_pay16, k0_pay27, k0_pay19, k0_pay2, k0_pay3]
    rfl
  · rw [M, ← neg_inf]
    pointwise [k0_pay28, k0_pay15, k0_pay14, k0_pay13, k0_pay18, k0_pay17, k0_pay16, k0_pay27, k0_pay19, k0_pay2, k0_pay3]
    rfl

/-- The 256 context keys, first map. -/
theorem ctx0 (q : FVec Ideal S512x128 .bf16) (K V : Vec Ideal S1x256x128 .bf16) (m l : Vec Ideal S1x512x1 .f32)
    (a : Vec Ideal S1x512x128 .f32) (r : Fin 512) (qr : Fin 128 → ℝ) (kr vr : Fin 256 → Fin 128 → ℝ)
    (hq : ∀ x, q (ix2 r x) = qr x) (hK : ∀ j x, K (ix3 0 j x) = kr j x) (hV : ∀ j d, V (ix3 0 j d) = vr j d)
    (h : Online.Inv (m (ix3 0 r 0)) (l (ix3 0 r 0)) (fun d => a (ix3 0 r d)) P Q) :
    Online.Inv (k0_pay38 q (k0_pay29 K) m (ix3 0 r 0)) (k0_pay36 q (k0_pay29 K) m l (ix3 0 r 0)) (fun d => k0_pay37 q (k0_pay29 K) V m a (ix3 0 r d))
      (P + ∑ j, (2 : ℝ) ^ (∑ x, qr x * kr j x)) (fun d => Q d + ∑ j, (2 : ℝ) ^ (∑ x, qr x * kr j x) * vr j d) := by
  have M : k0_pay38 q (k0_pay29 K) m (ix3 0 r 0) = max (m (ix3 0 r 0)) (Finset.univ.fold max ⊥ fun j => ∑ x, q (ix2 r x) * K (ix3 0 j x)) := by
    rw [← neg_inf]
    pointwise [k0_pay38, k0_pay33, k0_pay32, k0_pay31, k0_pay36, k0_pay35, k0_pay34, k0_pay37, k0_pay29, k0_pay30]
  refine h.step (fun j => ∑ x, q (ix2 r x) * K (ix3 0 j x)) _ (fun j => score_real _ _ qr (kr j) hq (hK j))
    (fun j d => V (ix3 0 j d)) vr hV M ?_ fun d => ?_
  · rw [M, ← neg_inf]
    pointwise [k0_pay38, k0_pay33, k0_pay32, k0_pay31, k0_pay36, k0_pay35, k0_pay34, k0_pay37, k0_pay29, k0_pay30]
    rfl
  · rw [M, ← neg_inf]
    pointwise [k0_pay38, k0_pay33, k0_pay32, k0_pay31, k0_pay36, k0_pay35, k0_pay34, k0_pay37, k0_pay29, k0_pay30]
    rfl

/-- The 256 context keys, second map. -/
theorem ctx1 (q : FVec Ideal S512x128 .bf16) (K V : Vec Ideal S1x256x128 .bf16) (m l : Vec Ideal S1x512x1 .f32)
    (a : Vec Ideal S1x512x128 .f32) (r : Fin 512) (qr : Fin 128 → ℝ) (kr vr : Fin 256 → Fin 128 → ℝ)
    (hq : ∀ x, q (ix2 r x) = qr x) (hK : ∀ j x, K (ix3 0 j x) = kr j x) (hV : ∀ j d, V (ix3 0 j d) = vr j d)
    (h : Online.Inv (m (ix3 0 r 0)) (l (ix3 0 r 0)) (fun d => a (ix3 0 r d)) P Q) :
    Online.Inv (k0_pay46 q (k0_pay29 K) m (ix3 0 r 0)) (k0_pay44 q (k0_pay29 K) m l (ix3 0 r 0)) (fun d => k0_pay45 q (k0_pay29 K) (k0_pay30 V) m a (ix3 0 r d))
      (P + ∑ j, (2 : ℝ) ^ (∑ x, qr x * kr j x)) (fun d => Q d + ∑ j, (2 : ℝ) ^ (∑ x, qr x * kr j x) * vr j d) := by
  have M : k0_pay46 q (k0_pay29 K) m (ix3 0 r 0) = max (m (ix3 0 r 0)) (Finset.univ.fold max ⊥ fun j => ∑ x, q (ix2 r x) * K (ix3 0 j x)) := by
    rw [← neg_inf]
    pointwise [k0_pay46, k0_pay41, k0_pay40, k0_pay39, k0_pay44, k0_pay43, k0_pay42, k0_pay45, k0_pay29, k0_pay30]
  refine h.step (fun j => ∑ x, q (ix2 r x) * K (ix3 0 j x)) _ (fun j => score_real _ _ qr (kr j) hq (hK j))
    (fun j d => V (ix3 0 j d)) vr hV M ?_ fun d => ?_
  · rw [M, ← neg_inf]
    pointwise [k0_pay46, k0_pay41, k0_pay40, k0_pay39, k0_pay44, k0_pay43, k0_pay42, k0_pay45, k0_pay29, k0_pay30]
    rfl
  · rw [M, ← neg_inf]
    pointwise [k0_pay46, k0_pay41, k0_pay40, k0_pay39, k0_pay44, k0_pay43, k0_pay42, k0_pay45, k0_pay29, k0_pay30]
    rfl

end Cert.AttnIdeal.RefValue
-- ==== Proof.AttnLoop.lean ====
module

public import proofs.«01_k».proof.Proof.AttnTrip
public import proofs.«01_k».proof.Proof.AttnStep

@[expose] public section

set_option maxRecDepth 16384

/-! The attention kernel's loop over the latent keys, trip after trip: after `k` trips the scratch
holds the running softmax of the first `512 * k` keys. -/

noncomputable section
namespace Cert.AttnIdeal.RefValue

open Cert.AttnIdeal Cert.AttnIdeal.Gen Idealize.ShloMosaic Idealize.ShloMosaic.TcCoe

section Reads
variable {sig : RefSig} {κ : Kind} {sp : Space} {s : Shape} {e : EltTy} {Val : EltTy → Type}

/-- A load through the newest store's rectangle reads what it stored. -/
theorem read_hit (v : View sig κ sp s e) (f : v.ty.Contents Val) (r : Rect s) (w : r.shape.Idx → Val e)
    (L : List (View.Piece Val s e)) : v.readAt Val r.toLoadRect (v.writes Val f (⟨r, w⟩ :: L)) = w :=
  funext fun x => View.read_writes_cons_emb v f r w L x

/-- A load through a rectangle the newest store does not meet reads what was there before it. -/
theorem read_skip (v : View sig κ sp s e) (f : v.ty.Contents Val) (r r' : Rect s) (w : r'.shape.Idx → Val e)
    (L : List (View.Piece Val s e)) (h : ∀ x, r.emb x ∉ r'.set) :
    v.readAt Val r.toLoadRect (v.writes Val f (⟨r', w⟩ :: L)) = v.readAt Val r.toLoadRect (v.writes Val f L) := by
  funext x
  show v.read Val _ (r.emb x) = v.read Val _ (r.emb x)
  rw [View.writes_cons, View.read_slice_write_of_not_mem r' _ _ _ (by rw [Rect.map_emb_univ]; exact h x)]

end Reads

/-- Two rectangles apart on the axis of the two maps do not meet. -/
theorem apart {c : ℕ} (o o' : ℕ) (inb inb') (h : o ≠ o') (x) :
    (Rect.unit (s := ⟨3, ![2, 512, c]⟩) ![o, 0, 0] ![1, 512, c] inb).emb x
      ∉ (Rect.unit (s := ⟨3, ![2, 512, c]⟩) ![o', 0, 0] ![1, 512, c] inb').set := by
  rw [Rect.mem_set_unit]
  intro hx
  have h0 := hx 0
  change o' ≤ o + 1 * (x 0).val ∧ o + 1 * (x 0).val < o' + 1 at h0
  have hx0 : (x 0).val < 1 := (x 0).isLt
  omega

/-- Where a trip's rows begin. -/
theorem off (k : Fin k0_t1_loop.trips) : k0_off1 k = ![0, 512 * k.val, 0] := by
  revert k; decide +kernel

theorem trips : k0_t1_loop.trips = 8 := by decide +kernel

/-- A trip's rows of a block of keys, read at an index. -/
theorem rows (X : Vec Ideal S1x4096x128 .bf16) (k : Fin k0_t1_loop.trips) (j : Fin 512) (x : Fin 128) (j' : Fin 4096)
    (h : j'.val = 512 * k.val + j.val) : View.ld X (rk k) (ix3 0 j x) = X (ix3 0 j' x) := by
  refine congrArg X (funext fun a => Fin.ext ?_)
  rw [Rect.idx_unit_val]
  refine (congrArg (· + _) (congrFun (off k) a)).trans ?_
  fin_cases a
  · rfl
  · exact h.symm
  · exact Nat.zero_add _

/-- The sum of the weights of the first `n` keys for a query row. -/
abbrev Psum (qr : Fin 128 → ℝ) (kr : ℕ → Fin 128 → ℝ) (n : ℕ) : ℝ := ∑ j ∈ Finset.range n, (2 : ℝ) ^ (∑ x, qr x * kr j x)
/-- The weighted sums of the first `n` keys' values for a query row. -/
abbrev Qsum (qr : Fin 128 → ℝ) (kr vr : ℕ → Fin 128 → ℝ) (n : ℕ) (d : Fin 128) : ℝ :=
  ∑ j ∈ Finset.range n, (2 : ℝ) ^ (∑ x, qr x * kr j x) * vr j d

/-- The weights of one more block of keys. -/
theorem Psum_add (qr : Fin 128 → ℝ) (kr : ℕ → Fin 128 → ℝ) (n b : ℕ) :
    Psum qr kr (n + b) = Psum qr kr n + ∑ j : Fin b, (2 : ℝ) ^ (∑ x, qr x * kr (n + j.val) x) := by
  rw [Psum, Finset.sum_range_add, Finset.sum_range (n := b)]

/-- The weighted values of one more block of keys. -/
theorem Qsum_add (qr : Fin 128 → ℝ) (kr vr : ℕ → Fin 128 → ℝ) (n b : ℕ) :
    Qsum qr kr vr (n + b) = fun d => Qsum qr kr vr n d + ∑ j : Fin b, (2 : ℝ) ^ (∑ x, qr x * kr (n + j.val) x) * vr (n + j.val) d := by
  funext d
  rw [Qsum, Finset.sum_range_add, Finset.sum_range (n := b)]

/-- What the three scratch buffers hold, at query row `r`, of the first map. -/
abbrev State0 (v12 : View sig .tc .vmem S2x512x1 .f32) (v13 : View sig .tc .vmem S2x512x1 .f32) (v14 : View sig .tc .vmem S2x512x128 .f32)
    (f12 : v12.ty.Contents (Elt Ideal)) (f13 : v13.ty.Contents (Elt Ideal)) (f14 : v14.ty.Contents (Elt Ideal)) (r : Fin 512)
    (P : ℝ) (Q : Fin 128 → ℝ) : Prop :=
  Online.Inv (v12.readAt (Elt Ideal) rm0.toLoadRect f12 (ix3 0 r 0)) (v13.readAt (Elt Ideal) rm0.toLoadRect f13 (ix3 0 r 0))
    (fun d => v14.readAt (Elt Ideal) ra0.toLoadRect f14 (ix3 0 r d)) P Q
/-- What the three scratch buffers hold, at query row `r`, of the second map. -/
abbrev State1 (v12 : View sig .tc .vmem S2x512x1 .f32) (v13 : View sig .tc .vmem S2x512x1 .f32) (v14 : View sig .tc .vmem S2x512x128 .f32)
    (f12 : v12.ty.Contents (Elt Ideal)) (f13 : v13.ty.Contents (Elt Ideal)) (f14 : v14.ty.Contents (Elt Ideal)) (r : Fin 512)
    (P : ℝ) (Q : Fin 128 → ℝ) : Prop :=
  Online.Inv (v12.readAt (Elt Ideal) rm1.toLoadRect f12 (ix3 0 r 0)) (v13.readAt (Elt Ideal) rm1.toLoadRect f13 (ix3 0 r 0))
    (fun d => v14.readAt (Elt Ideal) ra1.toLoadRect f14 (ix3 0 r d)) P Q

/-- After `k` trips the scratch holds, for both maps, the running softmax of the first `512 * k` keys. -/
theorem loop (𝒱 : Variants) (c : Dev nD) (bd : Option 𝒱.V) (i : grid0.Coords)
    (arg3 : Memref sig .tc .vmem S2x64 .f32) (harg3 : arg3.IsWhole) (arg4 : Memref sig .tc .vmem S2x64 .f32) (harg4 : arg4.IsWhole) (arg5 : Memref sig .tc .vmem S1x128 .f32) (harg5 : arg5.IsWhole) (arg6 : Memref sig .tc .vmem S1x512x128 .bf16) (harg6 : arg6.IsWhole)
    (arg7 : Memref sig .tc .vmem S1x4096x128 .bf16) (harg7 : arg7.IsWhole) (arg8 : Memref sig .tc .vmem S1x256x128 .bf16) (harg8 : arg8.IsWhole) (arg9 : Memref sig .tc .vmem S1x4096x128 .bf16) (harg9 : arg9.IsWhole) (arg10 : Memref sig .tc .vmem S1x256x128 .bf16) (harg10 : arg10.IsWhole)
    (arg11 : Memref sig .tc .vmem S1x512x128 .bf16) (harg11 : arg11.IsWhole) (arg12 : Memref sig .tc .vmem S2x512x1 .f32) (harg12 : arg12.IsWhole) (arg13 : Memref sig .tc .vmem S2x512x1 .f32) (harg13 : arg13.IsWhole) (arg14 : Memref sig .tc .vmem S2x512x128 .f32) (harg14 : arg14.IsWhole)
    (v0 : Vec Ideal S1x512x128 .bf16) (X7 : BufTy.Contents (Elt Ideal) arg7.view.ty) (X9 : BufTy.Contents (Elt Ideal) arg9.view.ty)
    (G12 : BufTy.Contents (Elt Ideal) arg12.view.ty) (G13 : BufTy.Contents (Elt Ideal) arg13.view.ty)
    (G14 : BufTy.Contents (Elt Ideal) arg14.view.ty)
    (r : Fin 512) (q0 q1 : Fin 128 → ℝ) (kr vr : ℕ → Fin 128 → ℝ)
    (hq0 : ∀ x, k0_pay22 v0 (ix2 r x) = q0 x) (hq1 : ∀ x, k0_pay23 v0 (ix2 r x) = q1 x)
    (hK : ∀ (j : Fin 4096) x, arg7.view.read (Elt Ideal) X7 (ix3 0 j x) = kr j.val x)
    (hV : ∀ (j : Fin 4096) x, arg9.view.read (Elt Ideal) X9 (ix3 0 j x) = vr j.val x)
    (h0 : State0 arg12.view arg13.view arg14.view G12 G13 G14 r 0 fun _ => 0)
    (h1 : State1 arg12.view arg13.view arg14.view G12 G13 G14 r 0 fun _ => 0) :
    ∀ k, k ≤ k0_t1_loop.trips →
      let L := pb_k0_t1 (F := Ideal) 𝒱 c bd i arg3 harg3 arg4 harg4 arg5 harg5 arg6 harg6 arg7 harg7 arg8 harg8 arg9 harg9 arg10 harg10 arg11 harg11 arg12 harg12 arg13 harg13 arg14 harg14 v0 X7 X9 G12 G13 G14 k
      State0 arg12.view arg13.view arg14.view (arg12.view.writes (Elt Ideal) G12 L.1) (arg13.view.writes (Elt Ideal) G13 L.2.1)
          (arg14.view.writes (Elt Ideal) G14 L.2.2) r (Psum q0 kr (512 * k)) (Qsum q0 kr vr (512 * k)) ∧
        State1 arg12.view arg13.view arg14.view (arg12.view.writes (Elt Ideal) G12 L.1) (arg13.view.writes (Elt Ideal) G13 L.2.1)
          (arg14.view.writes (Elt Ideal) G14 L.2.2) r (Psum q1 kr (512 * k)) (Qsum q1 kr vr (512 * k)) := by
  intro k
  induction k with
  | zero =>
    intro _
    simp only [pb_k0_t1, View.writes_nil, Nat.mul_zero, Psum, Qsum, Finset.range_zero, Finset.sum_empty]
    exact ⟨h0, h1⟩
  | succ k ih =>
    intro hk
    obtain ⟨i0, i1⟩ := ih (Nat.le_of_lt hk)
    have K : ∀ (j : Fin 512) x, arg7.view.readAt (Elt Ideal) (rk ⟨k, hk⟩).toLoadRect X7 (ix3 0 j x) = kr (512 * k + j.val) x := fun j x => by
      have : 512 * k + j.val < 4096 := by have := trips; have := j.isLt; omega
      rw [View.readAt_eq_ld, rows _ ⟨k, hk⟩ j x ⟨512 * k + j.val, this⟩ rfl, hK]
    have V : ∀ (j : Fin 512) x, arg9.view.readAt (Elt Ideal) (rk ⟨k, hk⟩).toLoadRect X9 (ix3 0 j x) = vr (512 * k + j.val) x := fun j x => by
      have : 512 * k + j.val < 4096 := by have := trips; have := j.isLt; omega
      rw [View.readAt_eq_ld, rows _ ⟨k, hk⟩ j x ⟨512 * k + j.val, this⟩ rfl, hV]
    have s0 := trip0 _ _ _ _ _ _ r q0 _ _ hq0 K V i0
    have s1 := trip1 _ _ _ _ _ _ r q1 _ _ hq1 K V i1
    rw [Nat.mul_succ, Psum_add, Psum_add, Qsum_add, Qsum_add]
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 v0 X7 X9 G12 G13 G14 ⟨k, hk⟩
    rw [trip_pieces] at e
    dsimp only [List.cons_append, List.nil_append] at e
    dsimp only
    rw [e]
    constructor
    · unfold State0
      rw [read_skip (h := apart 0 1 _ _ (by decide)), read_skip (h := apart 0 1 _ _ (by decide)), read_skip (h := apart 0 1 _ _ (by decide)),
        read_hit, read_hit, read_hit]
      exact s0
    · unfold State1
      rw [read_hit, read_hit, read_hit]
      exact s1

end Cert.AttnIdeal.RefValue
-- ==== Proof.AttnBlock.lean ====
module

public import proofs.«01_k».proof.Proof.AttnLoop

@[expose] public section

set_option maxRecDepth 16384

/-! What the attention kernel writes for one block of queries, read at an index. -/

noncomputable section
namespace Cert.AttnIdeal.RefValue

open Cert.AttnIdeal Cert.AttnIdeal.Gen Idealize.ShloMosaic Idealize.ShloMosaic.TcCoe

/-- The weight of the second map. -/
abbrev lamE (lq lk : Fin 2 → Fin 64 → EReal) : EReal :=
  Ideal.exp (∑ x, lq 0 x * lk 0 x) - Ideal.exp (∑ x, lq 1 x * lk 1 x) + Ideal.ofBits FTy.f32 1045220557#32

/-- The root-mean-square norm of a head's row, with its gain and the layer's fixed factor. -/
abbrev headNorm (o : Fin 128 → EReal) (g : EReal) (d : Fin 128) : EReal :=
  o d * Ideal.rsqrt (Ideal.div (∑ x, o x * o x) (Ideal.ofBits FTy.f32 1124073472#32) + Ideal.ofBits FTy.f32 925353388#32)
    * g * Ideal.ofBits FTy.f32 1061997773#32

/-- The block written, from the two maps' quotients. -/
theorem out_point (lq lk : Vec Ideal S2x64 .f32) (g : Vec Ideal S1x128 .f32) (a0 a1 : Vec Ideal S1x512x128 .f32)
    (l0 l1 : Vec Ideal S1x512x1 .f32) (r : Fin 512) (d : Fin 128) (o0 o1 : Fin 128 → EReal)
    (h0 : ∀ d, Ideal.div (a0 (ix3 0 r d)) (l0 (ix3 0 r 0)) = o0 d) (h1 : ∀ d, Ideal.div (a1 (ix3 0 r d)) (l1 (ix3 0 r 0)) = o1 d) :
    k0_pay1 (k0_pay47 lq lk a0 l0 a1 l1) g (ix3 0 r d)
      = headNorm (fun d => o0 d - lamE (fun m x => lq (ix2 m x)) (fun m x => lk (ix2 m x)) * o1 d) (g (ix2 0 d)) d := by
  simp only [← h0, ← h1]
  pointwise [k0_pay1, k0_pay47]

/-- The word of zero. -/
theorem zero_word : Ideal.ofBits FTy.f32 0#32 = 0 := by simp [Ideal.ofBits, Ideal.ieee]

/-- The word the running maximum starts from is a real number. -/
theorem start_real : ∃ x : ℝ, Ideal.ofBits FTy.f32 4048155338#32 = x := by
  exact ⟨-(13234890 * 2 ^ 76), by simp [Ideal.ofBits, Ideal.ieee]⟩

section Reads
variable (v : View sig .tc .vmem S2x512x1 .f32) (f : v.ty.Contents (Elt Ideal)) (L : List (View.Piece (Elt Ideal) S2x512x1 .f32))
  (va : View sig .tc .vmem S2x512x128 .f32) (fa : va.ty.Contents (Elt Ideal)) (La : List (View.Piece (Elt Ideal) S2x512x128 .f32))

theorem m_skip0 (w) : v.readAt (Elt Ideal) rm0.toLoadRect (v.writes (Elt Ideal) f (⟨rm1, w⟩ :: L))
    = v.readAt (Elt Ideal) rm0.toLoadRect (v.writes (Elt Ideal) f L) := read_skip _ _ _ _ _ _ (apart 0 1 _ _ (by decide))
theorem m_skip1 (w) : v.readAt (Elt Ideal) rm1.toLoadRect (v.writes (Elt Ideal) f (⟨rm0, w⟩ :: L))
    = v.readAt (Elt Ideal) rm1.toLoadRect (v.writes (Elt Ideal) f L) := read_skip _ _ _ _ _ _ (apart 1 0 _ _ (by decide))
theorem a_skip0 (w) : va.readAt (Elt Ideal) ra0.toLoadRect (va.writes (Elt Ideal) fa (⟨ra1, w⟩ :: La))
    = va.readAt (Elt Ideal) ra0.toLoadRect (va.writes (Elt Ideal) fa La) := read_skip _ _ _ _ _ _ (apart 0 1 _ _ (by decide))
theorem a_skip1 (w) : va.readAt (Elt Ideal) ra1.toLoadRect (va.writes (Elt Ideal) fa (⟨ra0, w⟩ :: La))
    = va.readAt (Elt Ideal) ra1.toLoadRect (va.writes (Elt Ideal) fa La) := read_skip _ _ _ _ _ _ (apart 1 0 _ _ (by decide))
theorem m_hit0 (w) : v.readAt (Elt Ideal) rm0.toLoadRect (v.writes (Elt Ideal) f (⟨rm0, w⟩ :: L)) = w := read_hit _ _ _ _ _
theorem m_hit1 (w) : v.readAt (Elt Ideal) rm1.toLoadRect (v.writes (Elt Ideal) f (⟨rm1, w⟩ :: L)) = w := read_hit _ _ _ _ _
theorem a_hit0 (w) : va.readAt (Elt Ideal) ra0.toLoadRect (va.writes (Elt Ideal) fa (⟨ra0, w⟩ :: La)) = w := read_hit _ _ _ _ _
theorem a_hit1 (w) : va.readAt (Elt Ideal) ra1.toLoadRect (va.writes (Elt Ideal) fa (⟨ra1, w⟩ :: La)) = w := read_hit _ _ _ _ _

end Reads

/-- Before the loop the scratch holds, for the first map, the running softmax of no keys. -/
theorem start0 (v12 v13 : View sig .tc .vmem S2x512x1 .f32) (v14 : View sig .tc .vmem S2x512x128 .f32) (r : Fin 512) (i12 i14) :
    State0 v12 v13 v14 (v12.writes (Elt Ideal) v12.junk [⟨Rect.unit (s := S2x512x1) ![0, 0, 0] ![2, 512, 1] i12, k0_pay24 (F := Ideal)⟩])
      (v13.writes (Elt Ideal) v13.junk [⟨Rect.unit (s := S2x512x1) ![0, 0, 0] ![2, 512, 1] i12, k0_pay25 (F := Ideal)⟩])
      (v14.writes (Elt Ideal) v14.junk [⟨Rect.unit (s := S2x512x128) ![0, 0, 0] ![2, 512, 128] i14, k0_pay26 (F := Ideal)⟩]) r 0 fun _ => 0 := by
  have z : (![0, 0, 0] : Fin 3 → ℕ) = fun _ => 0 := by funext a; fin_cases a <;> rfl
  unfold State0
  simp only [View.readAt_writes_junk_eq_canon]
  rw [View.canon_unit_zero (S := S2x512x1) z, View.canon_unit_zero (S := S2x512x1) z, View.canon_unit_zero (S := S2x512x128) z]
  obtain ⟨x, hx⟩ := start_real
  exact Online.Inv.start x hx zero_word fun _ => zero_word

/-- Before the loop the scratch holds, for the second map, the running softmax of no keys. -/
theorem start1 (v12 v13 : View sig .tc .vmem S2x512x1 .f32) (v14 : View sig .tc .vmem S2x512x128 .f32) (r : Fin 512) (i12 i14) :
    State1 v12 v13 v14 (v12.writes (Elt Ideal) v12.junk [⟨Rect.unit (s := S2x512x1) ![0, 0, 0] ![2, 512, 1] i12, k0_pay24 (F := Ideal)⟩])
      (v13.writes (Elt Ideal) v13.junk [⟨Rect.unit (s := S2x512x1) ![0, 0, 0] ![2, 512, 1] i12, k0_pay25 (F := Ideal)⟩])
      (v14.writes (Elt Ideal) v14.junk [⟨Rect.unit (s := S2x512x128) ![0, 0, 0] ![2, 512, 128] i14, k0_pay26 (F := Ideal)⟩]) r 0 fun _ => 0 := by
  have z : (![0, 0, 0] : Fin 3 → ℕ) = fun _ => 0 := by funext a; fin_cases a <;> rfl
  unfold State1
  simp only [View.readAt_writes_junk_eq_canon]
  rw [View.canon_unit_zero (S := S2x512x1) z, View.canon_unit_zero (S := S2x512x1) z, View.canon_unit_zero (S := S2x512x128) z]
  obtain ⟨x, hx⟩ := start_real
  exact Online.Inv.start x hx zero_word fun _ => zero_word

/-- A load of a whole buffer reads its contents. -/
theorem whole_read {S : Shape} {e : EltTy} (m : Memref sig .tc .vmem S e) (h : m.IsWhole) (x : Vec Ideal S e)
    {off : Fin S.rank → ℕ} (z : off = fun _ => 0) (inb) :
    View.readAt (Elt Ideal) m.view (Rect.unit (s := S) off S.size inb).toLoadRect (h.unread x) = x := by
  rw [View.readAt_eq_ld, h.read_unread, View.ld_unit_zero z]

/-- A query row with the lanes of the second map taken out. -/
abbrev lanes0 (q : Fin 128 → ℝ) : Fin 128 → ℝ := fun x => if x.val < 64 then q x else 0
/-- A query row with the lanes of the first map taken out. -/
abbrev lanes1 (q : Fin 128 → ℝ) : Fin 128 → ℝ := fun x => if x.val < 64 then 0 else q x

/-- Which lanes the first map keeps. -/
theorem lane_lt : ∀ x : Fin 128, IntOp.cmpi CmpIPredicate.slt (BitVec.ofNat 32 x.val) 64#32 = if x.val < 64 then 1#1 else 0#1 := by
  decide +kernel

/-- Which lanes the second map keeps. -/
theorem lane_ge : ∀ x : Fin 128, IntOp.cmpi CmpIPredicate.sge (BitVec.ofNat 32 x.val) 64#32 = if x.val < 64 then 0#1 else 1#1 := by
  decide +kernel

/-- The first map's query row: the lanes from 64 on read zero. -/
theorem masked0 (v0 : Vec Ideal S1x512x128 .bf16) (r : Fin 512) (q : Fin 128 → ℝ) (h : ∀ x, v0 (ix3 0 r x) = q x) (x : Fin 128) :
    k0_pay22 v0 (ix2 r x) = lanes0 q x := by
  have e : k0_pay22 v0 (ix2 r x) = Scalar.select (IntOp.cmpi CmpIPredicate.slt (BitVec.ofNat 32 x.val) 64#32) (v0 (ix3 0 r x)) 0 := by
    pointwise [k0_pay22, k0_pay20, k0_pay21]
  rw [e, h, lane_lt x]
  by_cases hx : x.val < 64 <;> simp [lanes0, hx, Scalar.select]

/-- The second map's query row: the lanes below 64 read zero. -/
theorem masked1 (v0 : Vec Ideal S1x512x128 .bf16) (r : Fin 512) (q : Fin 128 → ℝ) (h : ∀ x, v0 (ix3 0 r x) = q x) (x : Fin 128) :
    k0_pay23 v0 (ix2 r x) = lanes1 q x := by
  have e : k0_pay23 v0 (ix2 r x) = Scalar.select (IntOp.cmpi CmpIPredicate.sge (BitVec.ofNat 32 x.val) 64#32) (v0 (ix3 0 r x)) 0 := by
    pointwise [k0_pay23, k0_pay20, k0_pay21]
  rw [e, h, lane_ge x]
  by_cases hx : x.val < 64 <;> simp [lanes1, hx, Scalar.select]

/-- The block the kernel writes, where queries, keys and values are real: the two maps' softmaxes over
all keys, latent and context, weigh the values; the second, times its weight, is taken off the first;
the head norm follows. -/
theorem out_block (c : Dev nD) (i : grid0.Coords)
    (arg3 : Memref sig .tc .vmem S2x64 .f32) (harg3 : arg3.IsWhole) (arg4 : Memref sig .tc .vmem S2x64 .f32) (harg4 : arg4.IsWhole) (arg5 : Memref sig .tc .vmem S1x128 .f32) (harg5 : arg5.IsWhole) (arg6 : Memref sig .tc .vmem S1x512x128 .bf16) (harg6 : arg6.IsWhole)
    (arg7 : Memref sig .tc .vmem S1x4096x128 .bf16) (harg7 : arg7.IsWhole) (arg8 : Memref sig .tc .vmem S1x256x128 .bf16) (harg8 : arg8.IsWhole) (arg9 : Memref sig .tc .vmem S1x4096x128 .bf16) (harg9 : arg9.IsWhole) (arg10 : Memref sig .tc .vmem S1x256x128 .bf16) (harg10 : arg10.IsWhole)
    (arg11 : Memref sig .tc .vmem S1x512x128 .bf16) (harg11 : arg11.IsWhole) (arg12 : Memref sig .tc .vmem S2x512x1 .f32) (harg12 : arg12.IsWhole) (arg13 : Memref sig .tc .vmem S2x512x1 .f32) (harg13 : arg13.IsWhole) (arg14 : Memref sig .tc .vmem S2x512x128 .f32) (harg14 : arg14.IsWhole)
    (x0 : Vec Ideal S2x64 .f32) (x1 : Vec Ideal S2x64 .f32) (x2 : Vec Ideal S1x128 .f32) (x3 : Vec Ideal S1x512x128 .bf16)
    (x4 : Vec Ideal S1x4096x128 .bf16) (x5 : Vec Ideal S1x256x128 .bf16) (x6 : Vec Ideal S1x4096x128 .bf16) (x7 : Vec Ideal S1x256x128 .bf16)
    (r : Fin 512) (d : Fin 128) (q : Fin 128 → ℝ) (kr vr : ℕ → Fin 128 → ℝ)
    (hq : ∀ x, x3 (ix3 0 r x) = q x) (hK : ∀ (j : Fin 4096) x, x4 (ix3 0 j x) = kr j.val x)
    (hKc : ∀ (j : Fin 256) x, x5 (ix3 0 j x) = kr (4096 + j.val) x) (hV : ∀ (j : Fin 4096) x, x6 (ix3 0 j x) = vr j.val x)
    (hVc : ∀ (j : Fin 256) x, x7 (ix3 0 j x) = vr (4096 + j.val) x) :
    out0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 x7 (ix3 0 r d)
      = headNorm (fun d => ((Qsum (lanes0 q) kr vr 4352 d / Psum (lanes0 q) kr 4352 : ℝ) : EReal)
          - lamE (fun m x => x0 (ix2 m x)) (fun m x => x1 (ix2 m x)) * ((Qsum (lanes1 q) kr vr 4352 d / Psum (lanes1 q) kr 4352 : ℝ) : EReal))
        (x2 (ix2 0 d)) d := by
  have z3 : (![0, 0, 0] : Fin 3 → ℕ) = fun _ => 0 := by funext a; fin_cases a <;> rfl
  have z2 : (![0, 0] : Fin 2 → ℕ) = fun _ => 0 := by funext a; fin_cases a <;> rfl
  have pos : ∀ q, 0 < Psum q kr 4352 := fun q =>
    Finset.sum_pos (fun _ _ => Real.rpow_pos_of_pos (by norm_num) _) ⟨0, by simp⟩
  obtain ⟨s0, s1⟩ := loop Variants.none c none i arg3 harg3 arg4 harg4 arg5 harg5 arg6 harg6 arg7 harg7 arg8 harg8 arg9 harg9 arg10 harg10 arg11 harg11 arg12 harg12 arg13 harg13 arg14 harg14 x3 (harg7.unread x4) (harg9.unread x6) _ _ _ r (lanes0 q) (lanes1 q) kr vr
    (masked0 x3 r q hq) (masked1 x3 r q hq) (fun j x => by rw [harg7.read_unread, hK]) (fun j x => by rw [harg9.read_unread, hV])
    (start0 arg12.view arg13.view arg14.view r inb_S2x512x1_S2x512x1_0_0_0 inb_S2x512x128_S2x512x128_0_0_0)
    (start1 arg12.view arg13.view arg14.view r inb_S2x512x1_S2x512x1_0_0_0 inb_S2x512x128_S2x512x128_0_0_0)
    k0_t1_loop.trips le_rfl
  rw [show 512 * k0_t1_loop.trips = 4096 by rw [trips]] at s0 s1
  have t0 := ctx0 _ x5 x7 _ _ _ r _ (fun j => kr (4096 + j.val)) (fun j => vr (4096 + j.val)) (masked0 x3 r q hq) hKc hVc s0
  have t1 := ctx1 _ x5 x7 _ _ _ r _ (fun j => kr (4096 + j.val)) (fun j => vr (4096 + j.val)) (masked1 x3 r q hq) hKc hVc s1
  rw [← Psum_add (lanes0 q) kr 4096 256, ← Qsum_add (lanes0 q) kr vr 4096 256] at t0
  rw [← Psum_add (lanes1 q) kr 4096 256, ← Qsum_add (lanes1 q) kr vr 4096 256] at t1
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 x7)]
  unfold kernelRun0_A
  dsimp only
  sl_unfold_words
  rw [View.canon_unit_zero (h := z3)]
  simp only [View.readCov, m_skip0, m_skip1, a_skip0, a_skip1, m_hit0, m_hit1, a_hit0, a_hit1, View.writes_append]
  have e0 := whole_read arg3 harg3 x0 z2
  have e1 := whole_read arg4 harg4 x1 z2
  have e2 := whole_read arg5 harg5 x2 z2
  have e3 := whole_read arg6 harg6 x3 z3
  have e5 := whole_read arg8 harg8 x5 z3
  have e7 := whole_read arg10 harg10 x7 z3
  dsimp only at e0 e1 e2 e3 e5 e7
  simp only [e0, e1, e2, e3, e5, e7]
  exact out_point x0 x1 x2 _ _ _ _ r d _ _ (t0.quotient (pos _)) (t1.quotient (pos _))

end Cert.AttnIdeal.RefValue
-- ==== Proof.AttnRead.lean ====
/-
  The attention's reference, operation by operation, read at an index.
-/
module

public import proofs.«01_k».proof.Proof.Gen.AttnRefIdeal.Read
public import proofs.«01_k».proof.Proof.Online
public import proofs.«01_k».proof.Proof.AttnBlock

@[expose] public section

set_option maxRecDepth 16384

noncomputable section

namespace Cert.AttnRefIdeal.RefValue

open Cert.AttnRefIdeal Cert.AttnRefIdeal.Gen Cert.AttnRefIdeal.Read Idealize.ShloMosaic Idealize.ShloMosaic.TcCoe

variable (x0 x1 : (⟨S1x2x64, .f32⟩ : BufTy).Contents (Elt Ideal)) (x2 : (⟨S1x128, .f32⟩ : BufTy).Contents (Elt Ideal))
  (x3 x4 : (⟨S16x4096x512, .bf16⟩ : BufTy).Contents (Elt Ideal)) (x5 : (⟨S16x256x512, .bf16⟩ : BufTy).Contents (Elt Ideal))
  (x6 : (⟨S16x4096x512, .bf16⟩ : BufTy).Contents (Elt Ideal)) (x7 : (⟨S16x256x512, .bf16⟩ : BufTy).Contents (Elt Ideal))

/-- The query, read by head, map and lane. -/
theorem v5_read (b : Fin 16) (s : Fin 4096) (h : Fin 4) (m : Fin 2) (x : Fin 64) :
    val_main_v5 x3 (ix5 b s h m x) = x3 (ix3 b s ⟨h.val * 128 + m.val * 64 + x.val, by omega⟩) := by
  pointwise [val_main_v5, val_main_v0]

/-- The keys, latent then context, read by head, map and lane. -/
theorem v7_read (b : Fin 16) (j : Fin 4352) (h : Fin 4) (m : Fin 2) (x : Fin 64) :
    val_main_v7 x4 x5 (ix5 b j h m x) = if hj : j.val < 4096 then x4 (ix3 b ⟨j.val, hj⟩ ⟨h.val * 128 + m.val * 64 + x.val, by omega⟩)
      else x5 (ix3 b ⟨j.val - 4096, by omega⟩ ⟨h.val * 128 + m.val * 64 + x.val, by omega⟩) := by
  pointwise [val_main_v7, val_main_v6, val_main_v1, val_main_v2]

/-- The values, latent then context, read by head and lane. -/
theorem v9_read (b : Fin 16) (j : Fin 4352) (h : Fin 4) (d : Fin 128) :
    val_main_v9 x6 x7 (ix4 b j h d) = if hj : j.val < 4096 then x6 (ix3 b ⟨j.val, hj⟩ ⟨h.val * 128 + d.val, by omega⟩)
      else x7 (ix3 b ⟨j.val - 4096, by omega⟩ ⟨h.val * 128 + d.val, by omega⟩) := by
  pointwise [val_main_v9, val_main_v8, val_main_v3, val_main_v4]

/-- The weight of the second map. -/
theorem v21_read : val_main_v21 x0 x1 ix0
    = Cert.AttnIdeal.RefValue.lamE (fun m x => x0 (ix3 0 m x)) (fun m x => x1 (ix3 0 m x)) := by
  pointwise [val_main_v21, val_main_cst_0, val_main_v20, val_main_v19, val_main_v18, val_main_v17, val_main_v16, val_main_v15, val_main_v14, val_main_v13, val_main_v12, val_main_v11, val_main_v10, val_main_cst]

/-- The logarithm of the constant two. -/
theorem log_two : Ideal.log (Ideal.ofBits FTy.f32 1073741824#32) = ((Real.log 2 : ℝ) : EReal) := by
  have h : Ideal.ofBits FTy.f32 1073741824#32 = ((2 : ℝ) : EReal) := by
    simp [Ideal.ofBits, Ideal.ieee]
    rw [← EReal.coe_mul]; congr 1; norm_num
  rw [h, Ideal.log_coe, if_neg (by norm_num)]

theorem lidx22 (b : Fin 16) (s : Fin 4096) (h : Fin 4) (m : Fin 2) (j : Fin 4352) (x : Fin 64) :
    lidx_main_v22 (ix5 b m h s j) x = ix5 b s h m x := by idx_ext

theorem ridx22 (b : Fin 16) (s : Fin 4096) (h : Fin 4) (m : Fin 2) (j : Fin 4352) (x : Fin 64) :
    ridx_main_v22 (ix5 b m h s j) x = ix5 b j h m x := by idx_ext

/-- A score, scaled by the logarithm of two. -/
theorem v25_read (b : Fin 16) (s : Fin 4096) (h : Fin 4) (m : Fin 2) (j : Fin 4352) :
    val_main_v25 x3 x4 x5 (ix5 b m h s j) = (∑ x : Fin 64, val_main_v5 x3 (ix5 b s h m x) * val_main_v7 x4 x5 (ix5 b j h m x)) * ((Real.log 2 : ℝ) : EReal) := by
  rw [val_main_v25_apply, val_main_v22_apply, val_main_v24_apply, val_main_v23_apply, val_main_cst_1_apply, Ideal.mulf_def,
    Ideal.ofBits_def, Ideal.hostUnary_log_def, log_two]
  simp only [lidx22, ridx22]

theorem idx30 (b : Fin 16) (s : Fin 4096) (h : Fin 4) (m : Fin 2) (j : Fin 4352) :
    idx_main_v29 (idx_main_v30 (ix5 b m h s j)) = ix4 b m h s := by idx_ext

theorem idx35 (b : Fin 16) (s : Fin 4096) (h : Fin 4) (m : Fin 2) (j i : Fin 4352) :
    idx_main_v33 (idx_main_v34 (idx_main_v35 (ix5 b m h s j))) i = ix5 b m h s i := by idx_ext

/-- A score less its row's maximum. -/
theorem v31_read (b : Fin 16) (s : Fin 4096) (h : Fin 4) (m : Fin 2) (j : Fin 4352) :
    val_main_v31 x3 x4 x5 (ix5 b m h s j)
      = val_main_v25 x3 x4 x5 (ix5 b m h s j) - val_main_v28 x3 x4 x5 (ix4 b m h s) := by
  rw [val_main_v31_apply, val_main_v30_apply, val_main_v29_apply, idx30, Ideal.subf_def]

/-- A softmax entry. -/
theorem v36_read (b : Fin 16) (s : Fin 4096) (h : Fin 4) (m : Fin 2) (j : Fin 4352) :
    val_main_v36 x3 x4 x5 (ix5 b m h s j) = Ideal.div (Ideal.exp (val_main_v25 x3 x4 x5 (ix5 b m h s j) - val_main_v28 x3 x4 x5 (ix4 b m h s)))
      (∑ i, Ideal.exp (val_main_v25 x3 x4 x5 (ix5 b m h s i) - val_main_v28 x3 x4 x5 (ix4 b m h s))) := by
  rw [val_main_v36_apply, val_main_v35_apply, val_main_v34_apply, val_main_v33_apply, val_main_cst_4_apply,
    Ideal.ofBits_def, Cert.AttnIdeal.RefValue.zero_word, zero_add, Ideal.hostDivf_def]
  simp only [idx35, val_main_v32_apply, v31_read, Ideal.hostUnary_exp_def]

theorem idx37 (b : Fin 16) (s : Fin 4096) (h : Fin 4) (j : Fin 4352) :
    idx_main_v37 (idx_main_v38 (ix4 b h s j)) = ix5 b 0 h s j := by idx_ext

theorem idx39 (b : Fin 16) (s : Fin 4096) (h : Fin 4) (j : Fin 4352) :
    idx_main_v39 (idx_main_v40 (ix4 b h s j)) = ix5 b 1 h s j := by idx_ext

theorem lidx44 (b : Fin 16) (s : Fin 4096) (h : Fin 4) (d : Fin 128) (j : Fin 4352) :
    lidx_main_v44 (ix4 b h d s) j = ix4 b j h d := by idx_ext

theorem ridx44 (b : Fin 16) (s : Fin 4096) (h : Fin 4) (d : Fin 128) (j : Fin 4352) :
    ridx_main_v44 (ix4 b h d s) j = ix4 b h s j := by idx_ext

theorem idx41 (b : Fin 16) (s : Fin 4096) (h : Fin 4) (j : Fin 4352) :
    idx_main_v41 (ix4 b h s j) = ix0 := by idx_ext

/-- The difference of the two maps. -/
theorem v43_read (b : Fin 16) (s : Fin 4096) (h : Fin 4) (j : Fin 4352) :
    val_main_v43 x0 x1 x3 x4 x5 (ix4 b h s j)
      = val_main_v36 x3 x4 x5 (ix5 b 0 h s j) - val_main_v21 x0 x1 ix0 * val_main_v36 x3 x4 x5 (ix5 b 1 h s j) := by
  rw [val_main_v43_apply, val_main_v42_apply, val_main_v41_apply, idx41, val_main_v40_apply,
    val_main_v39_apply, idx39, val_main_v38_apply, val_main_v37_apply, idx37]
  generalize val_main_v36 x3 x4 x5 (ix5 b 0 h s j) = u
  generalize val_main_v36 x3 x4 x5 (ix5 b 1 h s j) = v
  generalize val_main_v21 x0 x1 ix0 = w
  rfl

/-- The weighted sum of the values. -/
theorem v44_read (b : Fin 16) (s : Fin 4096) (h : Fin 4) (d : Fin 128) :
    val_main_v44 x0 x1 x3 x4 x5 x6 x7 (ix4 b h d s) = ∑ j : Fin 4352, val_main_v9 x6 x7 (ix4 b j h d) *
       (val_main_v36 x3 x4 x5 (ix5 b 0 h s j) - val_main_v21 x0 x1 ix0 * val_main_v36 x3 x4 x5 (ix5 b 1 h s j)) := by
  rw [val_main_v44_apply]
  refine Finset.sum_congr rfl fun j _ => ?_
  rw [lidx44, ridx44, v43_read]

theorem idx62 (b : Fin 16) (s : Fin 4096) (h : Fin 4) (d : Fin 128) :
    idx_main_v62 (ix3 b s ⟨h.val * 128 + d.val, by omega⟩) = ix4 b s h d := by idx_ext

theorem idx45 (b : Fin 16) (s : Fin 4096) (h : Fin 4) (d : Fin 128) :
    idx_main_v45 (ix4 b s h d) = ix4 b h d s := by idx_ext

theorem idx54 (b : Fin 16) (s : Fin 4096) (h : Fin 4) (d x : Fin 128) :
    idx_main_v47 (idx_main_v48 (idx_main_v54 (ix4 b s h d))) x = ix4 b s h x := by idx_ext

theorem idx58 (b : Fin 16) (s : Fin 4096) (h : Fin 4) (d : Fin 128) :
    idx_main_v56 (idx_main_v57 (idx_main_v58 (ix4 b s h d))) = ix2 0 d := by idx_ext

/-- A square. -/
theorem v46_read (b : Fin 16) (s : Fin 4096) (h : Fin 4) (x : Fin 128) :
    val_main_v46 x0 x1 x3 x4 x5 x6 x7 (ix4 b s h x)
      = val_main_v44 x0 x1 x3 x4 x5 x6 x7 (ix4 b h x s) * val_main_v44 x0 x1 x3 x4 x5 x6 x7 (ix4 b h x s) := by
  rw [val_main_v46_apply, val_main_v45_apply, idx45]
  generalize val_main_v44 x0 x1 x3 x4 x5 x6 x7 (ix4 b h x s) = u
  rfl

/-- The norm's factor. -/
theorem v54_read (b : Fin 16) (s : Fin 4096) (h : Fin 4) (d : Fin 128) :
    val_main_v54 x0 x1 x3 x4 x5 x6 x7 (ix4 b s h d)
      = Ideal.rsqrt (Ideal.div (∑ x : Fin 128, val_main_v44 x0 x1 x3 x4 x5 x6 x7 (ix4 b h x s) * val_main_v44 x0 x1 x3 x4 x5 x6 x7 (ix4 b h x s))
          (Ideal.ofBits .f32 1124073472#32) + Ideal.ofBits .f32 925353388#32) := by
  rw [val_main_v54_apply, val_main_v53_apply, val_main_v52_apply, val_main_v51_apply, val_main_v50_apply,
    val_main_v49_apply, val_main_v48_apply, val_main_v47_apply, val_main_cst_5_apply, val_main_cst_6_apply, val_main_cst_7_apply,
    Ideal.ofBits_def, Cert.AttnIdeal.RefValue.zero_word, zero_add]
  have e : (∑ x : Fin 128, val_main_v46 x0 x1 x3 x4 x5 x6 x7 (idx_main_v47 (idx_main_v48 (idx_main_v54 (ix4 b s h d))) x))
      = ∑ x : Fin 128, val_main_v44 x0 x1 x3 x4 x5 x6 x7 (ix4 b h x s) * val_main_v44 x0 x1 x3 x4 x5 x6 x7 (ix4 b h x s) :=
    Finset.sum_congr rfl fun x _ => by rw [idx54, v46_read]
  rw [e]
  generalize (∑ x : Fin 128, val_main_v44 x0 x1 x3 x4 x5 x6 x7 (ix4 b h x s) * val_main_v44 x0 x1 x3 x4 x5 x6 x7 (ix4 b h x s)) = u
  rfl

/-- The result is the head norm of the weighted sums. -/
theorem v63_read (b : Fin 16) (s : Fin 4096) (h : Fin 4) (d : Fin 128) :
    val_main_v63 x0 x1 x2 x3 x4 x5 x6 x7 (ix3 b s ⟨h.val * 128 + d.val, by omega⟩) =
     Cert.AttnIdeal.RefValue.headNorm (fun d => val_main_v44 x0 x1 x3 x4 x5 x6 x7 (ix4 b h d s)) (x2 (ix2 0 d)) d := by
  rw [val_main_v63_apply, val_main_v62_apply, val_main_v61_apply, val_main_v60_apply, val_main_v59_apply, idx62,
    val_main_v55_apply, v54_read, val_main_v45_apply, idx45, val_main_v58_apply, val_main_v57_apply, val_main_v56_apply, idx58,
    val_main_cst_8_apply]
  unfold Cert.AttnIdeal.RefValue.headNorm
  beta_reduce
  generalize (∑ x : Fin 128, val_main_v44 x0 x1 x3 x4 x5 x6 x7 (ix4 b h x s) * val_main_v44 x0 x1 x3 x4 x5 x6 x7 (ix4 b h x s)) = u
  generalize val_main_v44 x0 x1 x3 x4 x5 x6 x7 (ix4 b h d s) = v
  rfl

end Cert.AttnRefIdeal.RefValue
-- ==== Proof.AttnRow.lean ====
/-
  The attention's reference at finite arguments: each map's softmax is a quotient of sums over the keys.
-/
module

public import proofs.«01_k».proof.Proof.AttnRead
public import Idealize.ShloMosaic.PureOps.Ideal.Laws

@[expose] public section

set_option maxRecDepth 16384

noncomputable section

namespace Cert.AttnRefIdeal.RefValue

open Cert.AttnRefIdeal Cert.AttnRefIdeal.Gen Cert.AttnRefIdeal.Read Idealize.ShloMosaic Idealize.ShloMosaic.TcCoe
open Cert.AttnIdeal.RefValue

/-- A head's lane, as a column. -/
abbrev col (h : Fin 4) (x : Fin 128) : Fin 512 := ⟨h.val * 128 + x.val, by omega⟩

variable (x0 x1 : (⟨S1x2x64, .f32⟩ : BufTy).Contents (Elt Ideal)) (x2 : (⟨S1x128, .f32⟩ : BufTy).Contents (Elt Ideal))
  (x3 x4 : (⟨S16x4096x512, .bf16⟩ : BufTy).Contents (Elt Ideal)) (x5 : (⟨S16x256x512, .bf16⟩ : BufTy).Contents (Elt Ideal))
  (x6 : (⟨S16x4096x512, .bf16⟩ : BufTy).Contents (Elt Ideal)) (x7 : (⟨S16x256x512, .bf16⟩ : BufTy).Contents (Elt Ideal))

/-- The lanes of map `m` of a row. -/
abbrev half (m : Fin 2) (x : Fin 64) : Fin 128 := ⟨m.val * 64 + x.val, by omega⟩

/-- The first map's score over all lanes, the second's lanes cleared. -/
theorem half0 (q k : Fin 128 → ℝ) : ∑ x : Fin 64, q (half 0 x) * k (half 0 x) = ∑ x, lanes0 q x * k x := by
  rw [show (∑ x : Fin 128, lanes0 q x * k x) = ∑ x : Fin (64 + 64), lanes0 q x * k x from rfl, Fin.sum_univ_add]
  have z : ∑ x : Fin 64, lanes0 q (Fin.natAdd 64 x) * k (Fin.natAdd 64 x) = 0 :=
    Finset.sum_eq_zero fun x _ => by simp [lanes0]
  rw [z, add_zero]
  refine Finset.sum_congr rfl fun x _ => ?_
  have e : (Fin.castAdd 64 x : Fin (64 + 64)) = half 0 x := Fin.ext (by simp [half])
  rw [e]; simp [lanes0, half]

/-- The second map's score over all lanes, the first's lanes cleared. -/
theorem half1 (q k : Fin 128 → ℝ) : ∑ x : Fin 64, q (half 1 x) * k (half 1 x) = ∑ x, lanes1 q x * k x := by
  rw [show (∑ x : Fin 128, lanes1 q x * k x) = ∑ x : Fin (64 + 64), lanes1 q x * k x from rfl, Fin.sum_univ_add]
  have z : ∑ x : Fin 64, lanes1 q (Fin.castAdd 64 x) * k (Fin.castAdd 64 x) = 0 :=
    Finset.sum_eq_zero fun x _ => by simp [lanes1]
  rw [z, zero_add]
  refine Finset.sum_congr rfl fun x _ => ?_
  have e : (Fin.natAdd 64 x : Fin (64 + 64)) = half 1 x := Fin.ext (by simp [half]; omega)
  rw [e]; simp [lanes1, half]

/-- A key of all keys, from the latent and the context keys. -/
theorem key_read (b : Fin 16) (h : Fin 4) (kr : ℕ → Fin 128 → ℝ)
    (hK : ∀ (j : Fin 4096) x, x4 (ix3 b j (col h x)) = kr j.val x)
    (hKc : ∀ (j : Fin 256) x, x5 (ix3 b j (col h x)) = kr (4096 + j.val) x) (m : Fin 2) (j : Fin 4352) (x : Fin 64) :
    val_main_v7 x4 x5 (ix5 b j h m x) = kr j.val (half m x) := by
  have e : (⟨h.val * 128 + m.val * 64 + x.val, by omega⟩ : Fin 512) = col h (half m x) :=
    Fin.ext (Nat.add_assoc _ _ _)
  rw [v7_read]
  by_cases hj : j.val < 4096
  · rw [dif_pos hj, e, hK]
  · rw [dif_neg hj, e, hKc]
    exact congrArg (fun n => ((kr n (half m x) : ℝ) : EReal)) (show 4096 + (j.val - 4096) = j.val by omega)

/-- A value of all values, from the latent and the context values. -/
theorem value_read (b : Fin 16) (h : Fin 4) (vr : ℕ → Fin 128 → ℝ)
    (hV : ∀ (j : Fin 4096) x, x6 (ix3 b j (col h x)) = vr j.val x)
    (hVc : ∀ (j : Fin 256) x, x7 (ix3 b j (col h x)) = vr (4096 + j.val) x) (j : Fin 4352) (d : Fin 128) :
    val_main_v9 x6 x7 (ix4 b j h d) = vr j.val d := by
  rw [v9_read]
  by_cases hj : j.val < 4096
  · rw [dif_pos hj]; exact hV ⟨j.val, hj⟩ d
  · rw [dif_neg hj]; refine (hVc ⟨j.val - 4096, by omega⟩ d).trans ?_
    exact congrArg (fun n => ((vr n d : ℝ) : EReal)) (show 4096 + (j.val - 4096) = j.val by omega)

/-- A score of map `m`. -/
theorem score_read (b : Fin 16) (s : Fin 4096) (h : Fin 4) (q : Fin 128 → ℝ) (kr : ℕ → Fin 128 → ℝ)
    (hq : ∀ x, x3 (ix3 b s (col h x)) = q x)
    (hK : ∀ (j : Fin 4096) x, x4 (ix3 b j (col h x)) = kr j.val x)
    (hKc : ∀ (j : Fin 256) x, x5 (ix3 b j (col h x)) = kr (4096 + j.val) x) (m : Fin 2) (j : Fin 4352) :
    (∑ x : Fin 64, val_main_v5 x3 (ix5 b s h m x) * val_main_v7 x4 x5 (ix5 b j h m x))
      = ((∑ x : Fin 64, q (half m x) * kr j.val (half m x) : ℝ) : EReal) := by
  rw [← Online.coe_sum]
  refine Finset.sum_congr rfl fun x _ => ?_
  have e : (⟨h.val * 128 + m.val * 64 + x.val, by omega⟩ : Fin 512) = col h (half m x) :=
    Fin.ext (Nat.add_assoc _ _ _)
  rw [key_read x4 x5 b h kr hK hKc, v5_read, e, hq, EReal.coe_mul]

/-- The source index at which a row's maximum is taken drops to the row. -/
theorem drop_row (b : Fin 16) (m : Fin 2) (h : Fin 4) (s : Fin 4096) (j : Fin 4352) :
    reducesTo_S16x2x4x4096x4352_S16x2x4x4096_d4.drop (ix5 b m h s j) = ix4 b m h s := by
  funext a
  refine Fin.ext ?_
  match a with
  | ⟨0, _⟩ => exact reducesTo_S16x2x4x4096x4352_S16x2x4x4096_d4.drop_apply_val_of_eq (ix5 b m h s j) 0 0
  | ⟨1, _⟩ => exact reducesTo_S16x2x4x4096x4352_S16x2x4x4096_d4.drop_apply_val_of_eq (ix5 b m h s j) 1 1
  | ⟨2, _⟩ => exact reducesTo_S16x2x4x4096x4352_S16x2x4x4096_d4.drop_apply_val_of_eq (ix5 b m h s j) 2 2
  | ⟨3, _⟩ => exact reducesTo_S16x2x4x4096x4352_S16x2x4x4096_d4.drop_apply_val_of_eq (ix5 b m h s j) 3 3

/-- The maximum of a row of real scores is real. -/
theorem max_real (hf : ∀ i, ∃ r : ℝ, val_main_v25 x3 x4 x5 i = r) (b : Fin 16) (m : Fin 2) (h : Fin 4) (s : Fin 4096) :
    ∃ M : ℝ, val_main_v28 x3 x4 x5 (ix4 b m h s) = M := by
  have c2 : val_main_cst_2 (F := Ideal) (Shape.Idx.first h_S_) = ⊥ := by rw [val_main_cst_2_apply]; exact neg_inf
  have c3 : val_main_cst_3 (F := Ideal) (idx_main_v27 (ix4 b m h s)) = ⊥ := by rw [val_main_cst_3_apply]; exact neg_inf
  rw [val_main_v28_apply, val_main_v27_apply, c3, Ideal.maximumf_def, max_eq_right bot_le]
  unfold val_main_v26
  rw [Host.reduce_eq_fold, c2]
  have hm : ix5 b m h s (0 : Fin 4352) ∈ Finset.univ.filter fun i => reducesTo_S16x2x4x4096x4352_S16x2x4x4096_d4.drop i = ix4 b m h s :=
    Finset.mem_filter.2 ⟨Finset.mem_univ _, drop_row b m h s 0⟩
  generalize (Finset.univ.filter fun i => reducesTo_S16x2x4x4096x4352_S16x2x4x4096_d4.drop i = ix4 b m h s) = t at hm ⊢
  generalize ix5 b m h s (0 : Fin 4352) = i0 at hm
  choose f hf using hf
  exact Online.fold_real_mem t i0 hm (val_main_v25 x3 x4 x5) f hf

/-- A softmax entry of map `m`, its row's maximum being real. -/
theorem entry_softmax (b : Fin 16) (s : Fin 4096) (h : Fin 4) (q : Fin 128 → ℝ) (kr : ℕ → Fin 128 → ℝ)
    (hq : ∀ x, x3 (ix3 b s (col h x)) = q x)
    (hK : ∀ (j : Fin 4096) x, x4 (ix3 b j (col h x)) = kr j.val x)
    (hKc : ∀ (j : Fin 256) x, x5 (ix3 b j (col h x)) = kr (4096 + j.val) x) (m : Fin 2)
    (hM : ∃ M : ℝ, val_main_v28 x3 x4 x5 (ix4 b m h s) = M) (p : Fin 128 → ℝ)
    (hp : ∀ k : Fin 128 → ℝ, ∑ x : Fin 64, q (half m x) * k (half m x) = ∑ x, p x * k x) (j : Fin 4352) :
    val_main_v36 x3 x4 x5 (ix5 b m h s j)
      = (((2 : ℝ) ^ (∑ x, p x * kr j.val x) / Psum p kr 4352 : ℝ) : EReal) := by
  have e : ∀ j, val_main_v25 x3 x4 x5 (ix5 b m h s j)
      = ((∑ x, p x * kr j.val x : ℝ) : EReal) * ((Real.log 2 : ℝ) : EReal) := fun j => by
    rw [v25_read, score_read x3 x4 x5 b s h q kr hq hK hKc, hp]
  rw [v36_read]
  simp only [e]
  rw [Psum, Finset.sum_range]
  exact Online.softmax (n := 4351) (fun j => ((∑ x, p x * kr j.val x : ℝ) : EReal)) (fun j => ∑ x, p x * kr j.val x)
    (fun _ => rfl) _ hM j

/-- The weights of a map over the values: the quotient of the two sums. -/
theorem quotient (p : Fin 128 → ℝ) (kr vr : ℕ → Fin 128 → ℝ) (d : Fin 128) :
    ∑ j : Fin 4352, (2 : ℝ) ^ (∑ x, p x * kr j.val x) / Psum p kr 4352 * vr j.val d
      = Qsum p kr vr 4352 d / Psum p kr 4352 := by
  rw [Qsum, Finset.sum_range, Finset.sum_div]
  exact Finset.sum_congr rfl fun j _ => by ring

/-- The reference's result, where queries, keys, values and the second map's weight are real. -/
theorem attn_row (b : Fin 16) (s : Fin 4096) (h : Fin 4) (d : Fin 128) (q : Fin 128 → ℝ) (kr vr : ℕ → Fin 128 → ℝ)
    (hq : ∀ x, x3 (ix3 b s (col h x)) = q x)
    (hK : ∀ (j : Fin 4096) x, x4 (ix3 b j (col h x)) = kr j.val x)
    (hKc : ∀ (j : Fin 256) x, x5 (ix3 b j (col h x)) = kr (4096 + j.val) x)
    (hV : ∀ (j : Fin 4096) x, x6 (ix3 b j (col h x)) = vr j.val x)
    (hVc : ∀ (j : Fin 256) x, x7 (ix3 b j (col h x)) = vr (4096 + j.val) x)
    (hf : ∀ i, ∃ r : ℝ, val_main_v25 x3 x4 x5 i = r)
    (hl : ∃ r : ℝ, lamE (fun m x => x0 (ix3 0 m x)) (fun m x => x1 (ix3 0 m x)) = r) :
    val_main_v63 x0 x1 x2 x3 x4 x5 x6 x7 (ix3 b s (col h d))
      = headNorm (fun d => ((Qsum (lanes0 q) kr vr 4352 d / Psum (lanes0 q) kr 4352 : ℝ) : EReal)
          - lamE (fun m x => x0 (ix3 0 m x)) (fun m x => x1 (ix3 0 m x))
            * ((Qsum (lanes1 q) kr vr 4352 d / Psum (lanes1 q) kr 4352 : ℝ) : EReal)) (x2 (ix2 0 d)) d := by
  obtain ⟨lam, hl⟩ := hl
  have e : (fun d => val_main_v44 x0 x1 x3 x4 x5 x6 x7 (ix4 b h d s))
      = fun d => ((Qsum (lanes0 q) kr vr 4352 d / Psum (lanes0 q) kr 4352 : ℝ) : EReal)
          - (lam : EReal) * ((Qsum (lanes1 q) kr vr 4352 d / Psum (lanes1 q) kr 4352 : ℝ) : EReal) := by
    funext d
    rw [v44_read, v21_read, hl, ← quotient, ← quotient, ← Online.mean_sub]
    refine Finset.sum_congr rfl fun j _ => ?_
    rw [value_read x6 x7 b h vr hV hVc,
      entry_softmax x3 x4 x5 b s h q kr hq hK hKc 0 (max_real x3 x4 x5 hf b 0 h s) (lanes0 q) (half0 q),
      entry_softmax x3 x4 x5 b s h q kr hq hK hKc 1 (max_real x3 x4 x5 hf b 1 h s) (lanes1 q) (half1 q)]
  rw [show ix3 b s (col h d) = ix3 b s ⟨h.val * 128 + d.val, by omega⟩ from rfl, v63_read, e, hl]

end Cert.AttnRefIdeal.RefValue
-- ==== Proof.AttnReal.lean ====
/-
  Finite arguments of the attention: real scores, a real weight, and keys and values over one range of positions.
-/
module

public import proofs.«01_k».proof.Proof.AttnRow

@[expose] public section

set_option maxRecDepth 16384

noncomputable section

namespace Cert.AttnRefIdeal.RefValue

open Cert.AttnRefIdeal Cert.AttnRefIdeal.Gen Cert.AttnRefIdeal.Read Idealize.ShloMosaic Idealize.ShloMosaic.TcCoe
open Cert.AttnIdeal.RefValue

/-- Every entry is a real number. -/
abbrev AllReal {ι : Type} (x : ι → EReal) : Prop := ∀ i, ∃ r : ℝ, x i = r

/-- Real rows over the latent positions and over the context positions are one family of real rows. -/
theorem joined (f : Fin 4096 → Fin 128 → EReal) (g : Fin 256 → Fin 128 → EReal) (hf : ∀ j x, ∃ r : ℝ, f j x = r)
    (hg : ∀ j x, ∃ r : ℝ, g j x = r) :
    ∃ k : ℕ → Fin 128 → ℝ, (∀ j x, f j x = k j.val x) ∧ ∀ j x, g j x = k (4096 + j.val) x := by
  choose fr hf using hf
  choose gr hg using hg
  refine ⟨fun n x => if h : n < 4096 then fr ⟨n, h⟩ x else if h' : n - 4096 < 256 then gr ⟨n - 4096, h'⟩ x else 0,
    fun j x => ?_, fun j x => ?_⟩
  · show f j x = ((if h : j.val < 4096 then fr ⟨j.val, h⟩ x else _ : ℝ) : EReal)
    rw [dif_pos j.isLt, hf]
  · have e : 4096 + j.val - 4096 = j.val := by omega
    have l : 4096 + j.val - 4096 < 256 := by have := j.isLt; omega
    show g j x = ((if h : 4096 + j.val < 4096 then fr ⟨4096 + j.val, h⟩ x
      else if h' : 4096 + j.val - 4096 < 256 then gr ⟨4096 + j.val - 4096, h'⟩ x else 0 : ℝ) : EReal)
    rw [dif_neg (by omega), dif_pos l, hg]
    exact congrArg (fun n : Fin 256 => ((gr n x : ℝ) : EReal)) (Fin.ext e.symm)

variable (x0 x1 : (⟨S1x2x64, .f32⟩ : BufTy).Contents (Elt Ideal)) (x2 : (⟨S1x128, .f32⟩ : BufTy).Contents (Elt Ideal))
  (x3 x4 : (⟨S16x4096x512, .bf16⟩ : BufTy).Contents (Elt Ideal)) (x5 : (⟨S16x256x512, .bf16⟩ : BufTy).Contents (Elt Ideal))
  (x6 : (⟨S16x4096x512, .bf16⟩ : BufTy).Contents (Elt Ideal)) (x7 : (⟨S16x256x512, .bf16⟩ : BufTy).Contents (Elt Ideal))

/-- Every score of real queries and keys is real. -/
theorem scores_real (h3 : ∀ i, ∃ r : ℝ, x3 i = r) (h4 : ∀ i, ∃ r : ℝ, x4 i = r) (h5 : ∀ i, ∃ r : ℝ, x5 i = r)
    (i : S16x2x4x4096x4352.Idx) : ∃ r : ℝ, val_main_v25 x3 x4 x5 i = r := by
  obtain ⟨b, m, h, s, j, rfl⟩ : ∃ (b : Fin 16) (m : Fin 2) (h : Fin 4) (s : Fin 4096) (j : Fin 4352), i = ix5 b m h s j :=
    ⟨i 0, i 1, i 2, i 3, i 4, funext fun a => match a with
      | ⟨0, _⟩ => rfl
      | ⟨1, _⟩ => rfl
      | ⟨2, _⟩ => rfl
      | ⟨3, _⟩ => rfl
      | ⟨4, _⟩ => rfl⟩
  obtain ⟨kr, hK, hKc⟩ := joined (fun j x => x4 (ix3 b j (col h x))) (fun j x => x5 (ix3 b j (col h x)))
    (fun _ _ => h4 _) (fun _ _ => h5 _)
  choose f hf using h3
  rw [v25_read, score_read x3 x4 x5 b s h (fun x => f (ix3 b s (col h x))) kr (fun _ => hf _) hK hKc, ← EReal.coe_mul]
  exact ⟨_, rfl⟩

/-- The word of the weight's constant is real. -/
theorem init_real : ∃ r : ℝ, Ideal.ofBits FTy.f32 1045220557#32 = r := by
  simp only [Ideal.ofBits, Ideal.ieee]
  simp
  rw [← EReal.coe_mul]
  exact ⟨_, rfl⟩

/-- The second map's weight is real where its parameters are. -/
theorem lam_real (lq lk : Fin 2 → Fin 64 → EReal) (hq : ∀ m x, ∃ r : ℝ, lq m x = r) (hk : ∀ m x, ∃ r : ℝ, lk m x = r) :
    ∃ r : ℝ, lamE lq lk = r := by
  choose q hq using hq
  choose k hk using hk
  obtain ⟨c, hc⟩ := init_real
  unfold lamE
  rw [score_real _ _ (q 0) (k 0) (hq 0) (hk 0), score_real _ _ (q 1) (k 1) (hq 1) (hk 1), hc, Ideal.exp_coe, Ideal.exp_coe,
    ← EReal.coe_sub, ← EReal.coe_add]
  exact ⟨_, rfl⟩

end Cert.AttnRefIdeal.RefValue
-- ==== Proof.AttnValue.lean ====
/-
  The attention kernel's result array is the reference's: every grid point writes its own block, one head of one
  query block, and each row of it is the reference's row.
-/
module

public import proofs.«01_k».proof.Proof.Gen.AttnIdeal.Value
public import proofs.«01_k».proof.Proof.AttnBlock
public import proofs.«01_k».proof.Proof.AttnReal
public import Idealize.ShloMosaic.Lib.Pipeline.ValueKit
public import Idealize.ShloMosaic.Lib.Claim

@[expose] public section

set_option maxRecDepth 16384

noncomputable section

namespace Cert.AttnIdeal.RefValue

open Cert.AttnIdeal Cert.AttnIdeal.Gen Idealize.ShloMosaic Idealize.ShloMosaic.TcCoe
open Idealize.SL.Sem
open Idealize.ShloMosaic.Pipeline (Dat)
open Cert.AttnRefIdeal.RefValue (AllReal col joined scores_real lam_real attn_row)

variable (m : (ℓ : Loc nD τ sig) → Buf (Elt Ideal) ℓ)

/-- Every window's block index at every grid point. -/
theorem idx : ∀ t : Fin cfg0.N, win0_0.index t = ![0, 0] ∧ win0_1.index t = ![0, 0] ∧ win0_2.index t = ![0, 0]
    ∧ win0_3.index t = ![(grid0.coords t 0).val, (grid0.coords t 2).val, (grid0.coords t 1).val]
    ∧ win0_4.index t = ![(grid0.coords t 0).val, 0, (grid0.coords t 1).val]
    ∧ win0_5.index t = ![(grid0.coords t 0).val, 0, (grid0.coords t 1).val]
    ∧ win0_6.index t = ![(grid0.coords t 0).val, 0, (grid0.coords t 1).val]
    ∧ win0_7.index t = ![(grid0.coords t 0).val, 0, (grid0.coords t 1).val]
    ∧ win0_8.index t = ![(grid0.coords t 0).val, (grid0.coords t 2).val, (grid0.coords t 1).val] :=
  (by decide +kernel : ∀ t : Fin grid0.N, _)

/-- What the body stores at an index of its block is the reference's value at the array index it sits at. -/
theorem point (c : Dev nD)
    (h0 : AllReal (ι := S1x2x64.Idx) (m ((c : Thread nD τ).loc main_arg0)))
    (h1 : AllReal (ι := S1x2x64.Idx) (m ((c : Thread nD τ).loc main_arg1)))
    (h3 : AllReal (ι := S16x4096x512.Idx) (m ((c : Thread nD τ).loc main_arg3)))
    (h4 : AllReal (ι := S16x4096x512.Idx) (m ((c : Thread nD τ).loc main_arg4)))
    (h5 : AllReal (ι := S16x256x512.Idx) (m ((c : Thread nD τ).loc main_arg5)))
    (h6 : AllReal (ι := S16x4096x512.Idx) (m ((c : Thread nD τ).loc main_arg6)))
    (h7 : AllReal (ι := S16x256x512.Idx) (m ((c : Thread nD τ).loc main_arg7)))
    (t : Fin cfg0.N) (y : S1x512x128.Idx) :
    outsAt0 m c t y
      = Cert.AttnRefIdeal.Read.val_main_v63 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (((cfg0.win 8).blk t).view.emb y) := by
  idx_vars y
  obtain rfl : y0 = 0 := Subsingleton.elim _ _
  have hb : (grid0.coords t 0).val < 16 := (grid0.coords t 0).isLt
  have hh : (grid0.coords t 1).val < 4 := (grid0.coords t 1).isLt
  have hs : (grid0.coords t 2).val < 8 := (grid0.coords t 2).isLt
  have e : ((cfg0.win 8).blk t).view.emb (ix3 (0 : Fin 1) y1 y2 : S1x512x128.Idx)
      = (ix3 (⟨(grid0.coords t 0).val, hb⟩ : Fin 16) (⟨(grid0.coords t 2).val * 512 + y1.val, by omega⟩ : Fin 4096)
          (col ⟨(grid0.coords t 1).val, hh⟩ y2) : S16x4096x512.Idx) := by
    blk_ext [idx t]
  obtain ⟨kr, hK, hKc⟩ := joined
    (fun j x => m ((c : Thread nD τ).loc main_arg4) (ix3 ⟨(grid0.coords t 0).val, hb⟩ j (col ⟨(grid0.coords t 1).val, hh⟩ x)))
    (fun j x => m ((c : Thread nD τ).loc main_arg5) (ix3 ⟨(grid0.coords t 0).val, hb⟩ j (col ⟨(grid0.coords t 1).val, hh⟩ x)))
    (fun _ _ => h4 _) (fun _ _ => h5 _)
  obtain ⟨vr, hV, hVc⟩ := joined
    (fun j x => m ((c : Thread nD τ).loc main_arg6) (ix3 ⟨(grid0.coords t 0).val, hb⟩ j (col ⟨(grid0.coords t 1).val, hh⟩ x)))
    (fun j x => m ((c : Thread nD τ).loc main_arg7) (ix3 ⟨(grid0.coords t 0).val, hb⟩ j (col ⟨(grid0.coords t 1).val, hh⟩ x)))
    (fun _ _ => h6 _) (fun _ _ => h7 _)
  have hl := lam_real (fun a x => m ((c : Thread nD τ).loc main_arg0) (ix3 0 a x)) (fun a x => m ((c : Thread nD τ).loc main_arg1) (ix3 0 a x))
    (fun _ _ => h0 _) (fun _ _ => h1 _)
  have hf := scores_real _ _ _ h3 h4 h5
  choose q hq using h3
  have e0 : (fun (a : Fin 2) (x : Fin 64) => iblk m c 0 t (ix2 a x)) = fun a x => m ((c : Thread nD τ).loc main_arg0) (ix3 0 a x) := by
    funext a x
    blk_point [iblk, V, idx t]
  have e1 : (fun (a : Fin 2) (x : Fin 64) => iblk m c 1 t (ix2 a x)) = fun a x => m ((c : Thread nD τ).loc main_arg1) (ix3 0 a x) := by
    funext a x
    blk_point [iblk, V, idx t]
  have e2 : iblk m c 2 t (ix2 0 y2) = m ((c : Thread nD τ).loc main_arg2) (ix2 0 y2) := by
    blk_point [iblk, V, idx t]
  refine (out_block c (grid0.coords t) _ _ _ _ _ _ _ _ _ _ _ _ _ _ _ _ _ _ _ _ _ _ _ _ _ _ _ _ _ _ _ _ y1 y2
    (fun x => q (ix3 (⟨(grid0.coords t 0).val, hb⟩ : Fin 16) (⟨(grid0.coords t 2).val * 512 + y1.val, by omega⟩ : Fin 4096)
          (col ⟨(grid0.coords t 1).val, hh⟩ x))) kr vr ?_ ?_ ?_ ?_ ?_).trans ?_
  · intro x
    rw [← hq]
    blk_ext [iblk, V, idx t]
  · intro j x
    rw [← hK]
    blk_ext [iblk, V, idx t]
  · intro j x
    rw [← hKc]
    blk_ext [iblk, V, idx t]
  · intro j x
    rw [← hV]
    blk_ext [iblk, V, idx t]
  · intro j x
    rw [← hVc]
    blk_ext [iblk, V, idx t]
  · refine Eq.trans ?_ ((congrArg _ e).trans (attn_row _ _ _ _ _ _ _ _ _ _ _ _ _ kr vr (fun x => hq _) hK hKc hV hVc hf hl)).symm
    rw [e0, e1, e2]

/-- The result array after the run is the reference's composed term over the kernel's arguments. -/
theorem final (c : Dev nD)
    (h0 : AllReal (ι := S1x2x64.Idx) (m ((c : Thread nD τ).loc main_arg0)))
    (h1 : AllReal (ι := S1x2x64.Idx) (m ((c : Thread nD τ).loc main_arg1)))
    (h3 : AllReal (ι := S16x4096x512.Idx) (m ((c : Thread nD τ).loc main_arg3)))
    (h4 : AllReal (ι := S16x4096x512.Idx) (m ((c : Thread nD τ).loc main_arg4)))
    (h5 : AllReal (ι := S16x256x512.Idx) (m ((c : Thread nD τ).loc main_arg5)))
    (h6 : AllReal (ι := S16x4096x512.Idx) (m ((c : Thread nD τ).loc main_arg6)))
    (h7 : AllReal (ι := S16x256x512.Idx) (m ((c : Thread nD τ).loc main_arg7))) :
    (dats m 0 c).arrAt 8 cfg0.N
    = Cert.AttnRefIdeal.Read.val_main_v63 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  exact point m c h0 h1 h3 h4 h5 h6 h7 t y

end Cert.AttnIdeal.RefValue
-- ==== Proof.AttnClaims.lean ====
/-
  The attention's claims: both kernel programs and the reference run and leave their arguments alone, and at finite
  arguments the kernel's result array is the reference's.
-/
module

public import proofs.«01_k».proof.Defs
public import proofs.«01_k».proof.Proof.Gen.Attn.Frame
public import proofs.«01_k».proof.Proof.Gen.AttnRefIdeal.Run
public import proofs.«01_k».proof.Proof.Gen.Pre_finite_attn
public import proofs.«01_k».proof.Proof.AttnFinite
public import proofs.«01_k».proof.Proof.AttnValue

@[expose] public section

set_option maxRecDepth 16384

noncomputable section

namespace Cert.AttnClaims

open Idealize.ShloMosaic Idealize.ShloMosaic.TcCoe Idealize.SL.Sem

/-- The attention kernel runs over machine numbers and leaves its arguments alone. -/
theorem frame_kernel : letI := Cert.Attn.Gen.facts; Cert.quiescent_Attn := fun m ρ _ => Cert.Attn.Gen.frame m ρ

/-- The attention kernel runs over the extended reals and leaves its arguments alone. -/
theorem frame_ideal : letI := Cert.AttnIdeal.Gen.facts; Cert.quiescent_AttnIdeal := fun m ρ _ => Cert.AttnIdeal.Gen.frame m ρ

/-- The same at finite arguments. -/
theorem frame_ideal_finite : letI := Cert.AttnIdeal.Gen.facts; letI := Cert.Pre_finite_attn.Gen.facts;
    Cert.quiescent_AttnIdeal_pre_finite_attn := fun m ρ _ => Cert.AttnIdeal.Gen.frame m ρ

/-- The attention's reference runs over the extended reals and leaves its arguments alone. -/
theorem frame_reference : letI := Cert.AttnRefIdeal.Gen.facts; Cert.quiescent_AttnRefIdeal := fun m ρ _ =>
  (θ_run Cert.AttnRefIdeal.defs _ _).mono
    (fun r h => ⟨fun c => (h c).2, Idealize.ShloMosaic.sem_eq_zero_of_no_sems (by decide) r.2⟩)
    (Cert.AttnRefIdeal.Value.run (F := Ideal) m ρ)

/-- The same at finite arguments. -/
theorem frame_reference_finite : letI := Cert.AttnRefIdeal.Gen.facts; letI := Cert.Pre_finite_attn.Gen.facts;
    Cert.quiescent_AttnRefIdeal_pre_finite_attn := fun m ρ _ =>
  (θ_run Cert.AttnRefIdeal.defs _ _).mono
    (fun r h => ⟨fun c => (h c).2, Idealize.ShloMosaic.sem_eq_zero_of_no_sems (by decide) r.2⟩)
    (Cert.AttnRefIdeal.Value.run (F := Ideal) m ρ)

/-- From equal finite arguments the attention kernel and its reference end with equal results. -/
theorem value : letI := Cert.AttnIdeal.Gen.facts; letI := Cert.AttnRefIdeal.Gen.facts; letI := Cert.Pre_finite_attn.Gen.facts;
    Cert.algebraic_AttnIdeal_AttnRefIdeal_pre_finite_attn :=
  letI := Cert.Pre_finite_attn.Gen.facts
  fun m ρ m' ρ' hfin hag => ⟨_, Cert.AttnIdeal.Value.run_blocks (F := Ideal) m ρ,
    (θ_run Cert.AttnRefIdeal.defs _ _).mono (fun r h c => ⟨(h c).1.trans (by
      obtain ⟨f0, f1, f3, f4, f5, f6, f7⟩ := Cert.AttnFinite.entries _ _ _ _ _ _ _ _ (hfin c)
      rw [Cert.AttnIdeal.RefValue.final m c f0 f1 f3 f4 f5 f6 f7, Cert.AttnRefIdeal.Read.val_main_v63_eq]
      show Cert.AttnRefIdeal.Read.val_main_v63 (F := Ideal) (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg1)) (m' ((c.tc : Thread Cert.AttnRefIdeal.nD Cert.AttnRefIdeal.τ).loc Cert.AttnRefIdeal.main_arg2)) (m' ((c.tc : Thread Cert.AttnRefIdeal.nD Cert.AttnRefIdeal.τ).loc Cert.AttnRefIdeal.main_arg3)) (m' ((c.tc : Thread Cert.AttnRefIdeal.nD Cert.AttnRefIdeal.τ).loc Cert.AttnRefIdeal.main_arg4)) (m' ((c.tc : Thread Cert.AttnRefIdeal.nD Cert.AttnRefIdeal.τ).loc Cert.AttnRefIdeal.main_arg5)) (m' ((c.tc : Thread Cert.AttnRefIdeal.nD Cert.AttnRefIdeal.τ).loc Cert.AttnRefIdeal.main_arg6)) (m' ((c.tc : Thread Cert.AttnRefIdeal.nD Cert.AttnRefIdeal.τ).loc Cert.AttnRefIdeal.main_arg7)) = _
      obtain ⟨h0, h1, h2, h3, h4, h5, h6, h7⟩ := hag c
      rw [h0, h1, h2, h3, h4, h5, h6, h7]), (h c).2⟩)
      (Cert.AttnRefIdeal.Value.run (F := Ideal) m' ρ')⟩

end Cert.AttnClaims
-- ==== Proof.Rope.lean ====
/-
  The rotation of a projected row by axial positions, as the reference writes it and as the kernel computes it from three
  tables, and the equality of the two.
-/
module

public import Idealize.ShloMosaic.Lib.Pipeline.ValueKit
public import Idealize.ShloMosaic.Lib.Claim

@[expose] public section

set_option maxRecDepth 16384

noncomputable section

namespace Cert.Rope

open Idealize.ShloMosaic

/-- The angle of a lane: `t` holds the row coordinate's sixteen angles, `u` the column coordinate's. -/
abbrev angle (t u : Fin 16 → EReal) (j : ℕ) : EReal :=
  if j % 64 < 32 then t ⟨j % 16, Nat.mod_lt _ (by decide)⟩ else u ⟨j % 16, Nat.mod_lt _ (by decide)⟩

/-- A row of 512 lanes with every pair of lanes `j`, `j + 16` rotated by the pair's angle. -/
def rope (y : Fin 512 → EReal) (t u : Fin 16 → EReal) (j : Fin 512) : EReal :=
  if h : j.val % 32 < 16 then y j * Ideal.cos (angle t u j.val) - y ⟨j.val + 16, by omega⟩ * Ideal.sin (angle t u j.val)
  else y j * Ideal.cos (angle t u j.val) + y ⟨j.val - 16, by omega⟩ * Ideal.sin (angle t u j.val)

/-- The kernel's form: the lane, its group's lane sixteen above and its group's lane sixteen below, each times its table. -/
def turn (y : Fin 512 → EReal) (c a b : Fin 128 → EReal) (j : Fin 512) : EReal :=
  y j * c ⟨j.val % 128, by omega⟩
    + y ⟨128 * (j.val / 128) + (j.val % 128 + 16) % 128, by omega⟩ * a ⟨j.val % 128, by omega⟩
    + y ⟨128 * (j.val / 128) + (j.val % 128 + 112) % 128, by omega⟩ * b ⟨j.val % 128, by omega⟩

/-- The cosine table. -/
def cosTab (t u : Fin 16 → EReal) (l : Fin 128) : EReal := Ideal.cos (angle t u l.val)

/-- The table for the lane sixteen above: minus the sine on the pair's first half. -/
def upTab (t u : Fin 16 → EReal) (l : Fin 128) : EReal := if l.val % 32 < 16 then -Ideal.sin (angle t u l.val) else 0

/-- The table for the lane sixteen below: the sine on the pair's second half. -/
def downTab (t u : Fin 16 → EReal) (l : Fin 128) : EReal := if l.val % 32 < 16 then 0 else Ideal.sin (angle t u l.val)

/-- Lanes that agree within a group of 128 have the same angle. -/
theorem angle_mod (t u : Fin 16 → EReal) (j : ℕ) : angle t u (j % 128) = angle t u j := by
  unfold angle
  have h1 : j % 128 % 64 = j % 64 := by omega
  have h2 : j % 128 % 16 = j % 16 := by omega
  simp only [h1, h2]

/-- An angle given by coordinate and frequency is the lane's angle. -/
theorem angle_of (t u : Fin 16 → EReal) (j : ℕ) (a : Fin 2) (f : Fin 16) (ha : a.val = j % 64 / 32) (hf : f.val = j % 16) :
    ![t f, u f] a = angle t u j := by
  obtain rfl : f = ⟨j % 16, Nat.mod_lt _ (by decide)⟩ := Fin.ext hf
  unfold angle
  by_cases h : j % 64 < 32
  · obtain rfl : a = 0 := Fin.ext (by simp only [ha, Fin.val_zero]; omega)
    rw [if_pos h]; rfl
  · obtain rfl : a = 1 := Fin.ext (by simp only [ha, Fin.val_one]; omega)
    rw [if_neg h]; rfl

/-- With these tables the kernel's form is the rotation. -/
theorem turn_tables (y : Fin 512 → EReal) (t u : Fin 16 → EReal) (j : Fin 512) :
    turn y (cosTab t u) (upTab t u) (downTab t u) j = rope y t u j := by
  unfold turn rope cosTab upTab downTab
  simp only [angle_mod]
  by_cases h : j.val % 32 < 16
  · have h' : j.val % 128 % 32 < 16 := by omega
    rw [dif_pos h, if_pos h', if_pos h', mul_zero, add_zero, mul_neg, sub_eq_add_neg]
    rw [show (⟨128 * (j.val / 128) + (j.val % 128 + 16) % 128, by omega⟩ : Fin 512) = ⟨j.val + 16, by omega⟩ from Fin.ext (by dsimp only; omega)]
  · have h' : ¬ j.val % 128 % 32 < 16 := by omega
    rw [dif_neg h, if_neg h', if_neg h', mul_zero, add_zero]
    rw [show (⟨128 * (j.val / 128) + (j.val % 128 + 112) % 128, by omega⟩ : Fin 512) = ⟨j.val - 16, by omega⟩ from Fin.ext (by dsimp only; omega)]

/-- The kernel's form at an index, with the lanes named any way. -/
theorem turn_of (y : Fin 512 → EReal) (c a b : Fin 128 → EReal) (j i0 i1 i2 : Fin 512) (l : Fin 128) (h0 : i0.val = j.val)
    (h1 : i1.val = 128 * (j.val / 128) + (j.val % 128 + 16) % 128) (h2 : i2.val = 128 * (j.val / 128) + (j.val % 128 + 112) % 128)
    (hl : l.val = j.val % 128) : y i0 * c l + y i1 * a l + y i2 * b l = turn y c a b j := by
  exact congrArg₂ (· + ·) (congrArg₂ (· + ·) (congrArg₂ (· * ·) (congrArg y (Fin.ext h0)) (congrArg c (Fin.ext hl)))
    (congrArg₂ (· * ·) (congrArg y (Fin.ext h1)) (congrArg a (Fin.ext hl))))
    (congrArg₂ (· * ·) (congrArg y (Fin.ext h2)) (congrArg b (Fin.ext hl)))

/-- The kernel's form computed head by head: four pieces of 128 lanes, each rotated within itself. -/
theorem turn_pieces (y : Fin 512 → EReal) (c a b : Fin 128 → EReal) (j : Fin 512) :
    (if h : j.val < 128 then
        y ⟨j.val, by omega⟩ * c ⟨j.val, by omega⟩ + y ⟨(j.val + 128 - 112) % 128, by omega⟩ * a ⟨j.val, by omega⟩
          + y ⟨(j.val + 128 - 16) % 128, by omega⟩ * b ⟨j.val, by omega⟩
      else if h : j.val - 128 < 128 then
        y ⟨128 + (j.val - 128), by omega⟩ * c ⟨j.val - 128, by omega⟩
          + y ⟨128 + (j.val - 128 + 128 - 112) % 128, by omega⟩ * a ⟨j.val - 128, by omega⟩
          + y ⟨128 + (j.val - 128 + 128 - 16) % 128, by omega⟩ * b ⟨j.val - 128, by omega⟩
      else if h : j.val - 128 - 128 < 128 then
        y ⟨256 + (j.val - 128 - 128), by omega⟩ * c ⟨j.val - 128 - 128, by omega⟩
          + y ⟨256 + (j.val - 128 - 128 + 128 - 112) % 128, by omega⟩ * a ⟨j.val - 128 - 128, by omega⟩
          + y ⟨256 + (j.val - 128 - 128 + 128 - 16) % 128, by omega⟩ * b ⟨j.val - 128 - 128, by omega⟩
      else
        y ⟨384 + (j.val - 128 - 128 - 128), by omega⟩ * c ⟨j.val - 128 - 128 - 128, by omega⟩
          + y ⟨384 + (j.val - 128 - 128 - 128 + 128 - 112) % 128, by omega⟩ * a ⟨j.val - 128 - 128 - 128, by omega⟩
          + y ⟨384 + (j.val - 128 - 128 - 128 + 128 - 16) % 128, by omega⟩ * b ⟨j.val - 128 - 128 - 128, by omega⟩)
      = turn y c a b j := by
  have hj := j.isLt
  split_ifs <;> refine turn_of y c a b j _ _ _ _ ?_ ?_ ?_ ?_ <;> (show _ = _) <;> dsimp only <;> omega

/-- A table of 128 lanes stacked from four pieces of sixteen, twice over. -/
theorem stack_pieces (p : Fin 4 → Fin 16 → EReal) (j : Fin 128) :
    (if h : j.val % 64 < 16 then p 0 ⟨j.val % 64, by omega⟩
      else if h : j.val % 64 - 16 < 16 then p 1 ⟨j.val % 64 - 16, by omega⟩
      else if h : j.val % 64 - 16 - 16 < 16 then p 2 ⟨j.val % 64 - 16 - 16, by omega⟩
      else p 3 ⟨j.val % 64 - 16 - 16 - 16, by omega⟩)
      = p ⟨j.val % 64 / 16, by omega⟩ ⟨j.val % 16, by omega⟩ := by
  split_ifs <;> refine congrArg₂ p (Fin.ext ?_) (Fin.ext ?_) <;> (show _ = _) <;>
    simp only [Fin.val_zero, Fin.val_one, Fin.val_two, show ((3 : Fin 4) : ℕ) = 3 from rfl] <;> omega

/-- The cosine table as four pieces. -/
theorem cos_stack (t u : Fin 16 → EReal) (l : Fin 128) :
    (![fun f => Ideal.cos (t f), fun f => Ideal.cos (t f), fun f => Ideal.cos (u f), fun f => Ideal.cos (u f)] : Fin 4 → Fin 16 → EReal)
      ⟨l.val % 64 / 16, by omega⟩ ⟨l.val % 16, by omega⟩ = cosTab t u l := by
  have hl := l.isLt
  unfold cosTab angle
  have h : l.val % 64 / 16 = 0 ∨ l.val % 64 / 16 = 1 ∨ l.val % 64 / 16 = 2 ∨ l.val % 64 / 16 = 3 := by omega
  rcases h with h | h | h | h
  · rw [show (⟨l.val % 64 / 16, by omega⟩ : Fin 4) = 0 from Fin.ext h, if_pos (by omega)]; rfl
  · rw [show (⟨l.val % 64 / 16, by omega⟩ : Fin 4) = 1 from Fin.ext h, if_pos (by omega)]; rfl
  · rw [show (⟨l.val % 64 / 16, by omega⟩ : Fin 4) = 2 from Fin.ext h, if_neg (by omega)]; rfl
  · rw [show (⟨l.val % 64 / 16, by omega⟩ : Fin 4) = 3 from Fin.ext h, if_neg (by omega)]; rfl

/-- The table for the lane sixteen above as four pieces. -/
theorem up_stack (t u : Fin 16 → EReal) (z : Fin 16 → EReal) (hz : ∀ f, z f = 0) (l : Fin 128) :
    (![fun f => -Ideal.sin (t f), z, fun f => -Ideal.sin (u f), z] : Fin 4 → Fin 16 → EReal)
      ⟨l.val % 64 / 16, by omega⟩ ⟨l.val % 16, by omega⟩ = upTab t u l := by
  have hl := l.isLt
  unfold upTab angle
  have h : l.val % 64 / 16 = 0 ∨ l.val % 64 / 16 = 1 ∨ l.val % 64 / 16 = 2 ∨ l.val % 64 / 16 = 3 := by omega
  rcases h with h | h | h | h
  · rw [show (⟨l.val % 64 / 16, by omega⟩ : Fin 4) = 0 from Fin.ext h, if_pos (by omega), if_pos (by omega)]; rfl
  · rw [show (⟨l.val % 64 / 16, by omega⟩ : Fin 4) = 1 from Fin.ext h, if_neg (by omega)]; exact hz _
  · rw [show (⟨l.val % 64 / 16, by omega⟩ : Fin 4) = 2 from Fin.ext h, if_pos (by omega), if_neg (by omega)]; rfl
  · rw [show (⟨l.val % 64 / 16, by omega⟩ : Fin 4) = 3 from Fin.ext h, if_neg (by omega)]; exact hz _

/-- The table for the lane sixteen below as four pieces. -/
theorem down_stack (t u : Fin 16 → EReal) (z : Fin 16 → EReal) (hz : ∀ f, z f = 0) (l : Fin 128) :
    (![z, fun f => Ideal.sin (t f), z, fun f => Ideal.sin (u f)] : Fin 4 → Fin 16 → EReal)
      ⟨l.val % 64 / 16, by omega⟩ ⟨l.val % 16, by omega⟩ = downTab t u l := by
  have hl := l.isLt
  unfold downTab angle
  have h : l.val % 64 / 16 = 0 ∨ l.val % 64 / 16 = 1 ∨ l.val % 64 / 16 = 2 ∨ l.val % 64 / 16 = 3 := by omega
  rcases h with h | h | h | h
  · rw [show (⟨l.val % 64 / 16, by omega⟩ : Fin 4) = 0 from Fin.ext h, if_pos (by omega)]; exact hz _
  · rw [show (⟨l.val % 64 / 16, by omega⟩ : Fin 4) = 1 from Fin.ext h, if_neg (by omega), if_pos (by omega)]; rfl
  · rw [show (⟨l.val % 64 / 16, by omega⟩ : Fin 4) = 2 from Fin.ext h, if_pos (by omega)]; exact hz _
  · rw [show (⟨l.val % 64 / 16, by omega⟩ : Fin 4) = 3 from Fin.ext h, if_neg (by omega), if_neg (by omega)]; rfl

end Cert.Rope
-- ==== Proof.InKernel.lean ====
/-
  The latent input projection's kernel: what its stores write, read at an index of the block.
-/
module

public import proofs.«01_k».proof.Proof.Gen.InprojIdeal.Frame
public import proofs.«01_k».proof.Proof.Loads
public import proofs.«01_k».proof.Proof.Rows
public import proofs.«01_k».proof.Proof.Rope

@[expose] public section

set_option maxRecDepth 16384

noncomputable section

namespace Cert.InprojIdeal.RefValue

open Cert.InprojIdeal Cert.InprojIdeal.Gen Idealize.ShloMosaic Idealize.ShloMosaic.TcCoe Cert.Rows Cert.Rope

/-- The input row, normalized and modulated. -/
theorem pay4_apply (v0 : Vec Ideal S1x512x1024 .f32) (v2 v4 : Vec Ideal S1x1x1024 .f32) (r : Fin 512) (j : Fin 1024) :
    k0_pay4 v0 v2 v4 (ix2 r j)
      = modulate (fun j => v2 (ix3 0 0 j)) (fun j => v4 (ix3 0 0 j)) (fun j => v0 (ix3 0 r j)) j := by
  pointwise [k0_pay4]

/-- The product stored as the recurrence's input. -/
theorem pay2_apply (v28 : FVec Ideal S512x1024 .bf16) (w : Vec Ideal S1024x512 .bf16) (r j : Fin 512) :
    k0_pay2 v28 w (ix3 0 r j) = dot (fun k => v28 (ix2 r k)) (fun k j => w (ix2 k j)) j := by
  pointwise [k0_pay2]

/-- The product stored as the value. -/
theorem pay11_apply (v28 : FVec Ideal S512x1024 .bf16) (w : Vec Ideal S1024x512 .bf16) (r j : Fin 512) :
    k0_pay1 (k0_pay11 v28 w) (ix3 0 r j) = dot (fun k => v28 (ix2 r k)) (fun k j => w (ix2 k j)) j := by
  pointwise [k0_pay11, k0_pay1]

/-- The activated product stored as the gate. -/
theorem pay3_apply (v28 : FVec Ideal S512x1024 .bf16) (w : Vec Ideal S1024x512 .bf16) (r j : Fin 512) :
    k0_pay3 v28 w (ix3 0 r j) = gelu (dot (fun k => v28 (ix2 r k)) (fun k j => w (ix2 k j)) j) := by
  pointwise [k0_pay3]

/-- The rotated and scaled product stored as the query. -/
theorem pay8_apply (v28 : FVec Ideal S512x1024 .bf16) (v30 v32 v34 : FVec Ideal S512x128 .f32) (w : Vec Ideal S1024x512 .bf16) (r j : Fin 512) :
    k0_pay8 v28 v30 v32 v34 w (ix3 0 r j)
      = turn (dot (fun k => v28 (ix2 r k)) (fun k j => w (ix2 k j))) (fun l => v30 (ix2 r l)) (fun l => v32 (ix2 r l))
          (fun l => v34 (ix2 r l)) j * Ideal.ofBits .f32 0x3E38AA3B#32 := by
  pointwise [k0_pay8]
  exact congrArg (· * Ideal.ofBits .f32 0x3E38AA3B#32) (turn_pieces (dot (fun k => v28 (ix2 r k)) (fun k j => w (ix2 k j)))
    (fun l => v30 (ix2 r l)) (fun l => v32 (ix2 r l)) (fun l => v34 (ix2 r l)) j)

/-- The rotated product stored as the key. -/
theorem pay10_apply (v28 : FVec Ideal S512x1024 .bf16) (v30 v32 v34 : FVec Ideal S512x128 .f32) (w : Vec Ideal S1024x512 .bf16) (r j : Fin 512) :
    k0_pay10 v28 v30 v32 v34 (k0_pay9 w) (ix3 0 r j)
      = turn (dot (fun k => v28 (ix2 r k)) (fun k j => w (ix2 k j))) (fun l => v30 (ix2 r l)) (fun l => v32 (ix2 r l))
          (fun l => v34 (ix2 r l)) j := by
  pointwise [k0_pay10, k0_pay9]
  exact turn_pieces (dot (fun k => v28 (ix2 r k)) (fun k j => w (ix2 k j)))
    (fun l => v30 (ix2 r l)) (fun l => v32 (ix2 r l)) (fun l => v34 (ix2 r l)) j

/-- The three tables' blocks pass through unchanged. -/
theorem tables_apply (v : Vec Ideal S512x128 .f32) (r : Fin 512) (l : Fin 128) :
    k0_pay5 v (ix2 r l) = v (ix2 r l) ∧ k0_pay6 v (ix2 r l) = v (ix2 r l) ∧ k0_pay7 v (ix2 r l) = v (ix2 r l) := by
  refine ⟨?_, ?_, ?_⟩
  · pointwise [k0_pay5]
  · pointwise [k0_pay6]
  · pointwise [k0_pay7]

variable (x0 : Vec Ideal S1x512x1024 .f32) (x1 : Vec Ideal S1x6x1024 .f32) (x2 : Vec Ideal S1024x2560 .bf16)
  (x3 x4 x5 : Vec Ideal S512x128 .f32)

/-- A row of the modulated block times 512 columns of the weight block, from column `o` on. -/
abbrev blkProj (o : ℕ) (ho : o + 512 ≤ 2560) (r : Fin 512) : Fin 512 → EReal :=
  dot (modulate (fun j => x1 (ix3 0 0 j)) (fun j => x1 (ix3 0 1 j)) (fun j => x0 (ix3 0 r j)))
    (fun k j => x2 (ix2 k ⟨o + j.val, by omega⟩))

/-- The modulated block as the body holds it. -/
theorem mod_apply (r : Fin 512) (j : Fin 1024) :
    k0_pay12 x0 x1 x2 x3 x4 x5 (ix2 r j)
      = modulate (fun j => x1 (ix3 0 0 j)) (fun j => x1 (ix3 0 1 j)) (fun j => x0 (ix3 0 r j)) j := by
  unfold k0_pay12
  rw [pay4_apply]
  have e1 (j : Fin 1024) : View.ld x1 r0_1 (ix3 0 0 j) = x1 (ix3 0 0 j) :=
    Cert.Loads.ld3 x1 _ _ _ _ _ _ _ _ _ _ (by simp) (by simp) (by simp)
  have e2 (j : Fin 1024) : View.ld x1 r0_2 (ix3 0 0 j) = x1 (ix3 0 1 j) :=
    Cert.Loads.ld3 x1 _ _ _ _ _ _ _ _ _ _ (by simp) (by simp) (by simp)
  have e0 (j : Fin 1024) : View.ld x0 r0_0 (ix3 0 r j) = x0 (ix3 0 r j) :=
    Cert.Loads.ld3 x0 _ _ _ _ _ _ _ _ _ _ (by simp) (by simp) (by simp)
  simp only [e0, e1, e2]

/-- The cosine block as the body holds it. -/
theorem tab13_apply (r : Fin 512) (l : Fin 128) : k0_pay13 x0 x1 x2 x3 x4 x5 (ix2 r l) = x3 (ix2 r l) := by
  unfold k0_pay13
  exact (tables_apply _ r l).1.trans (Cert.Loads.ld2 x3 _ _ _ _ _ _ _ (by simp) (by simp))

/-- The block for the lane sixteen above as the body holds it. -/
theorem tab14_apply (r : Fin 512) (l : Fin 128) : k0_pay14 x0 x1 x2 x3 x4 x5 (ix2 r l) = x4 (ix2 r l) := by
  unfold k0_pay14
  exact (tables_apply _ r l).2.1.trans (Cert.Loads.ld2 x4 _ _ _ _ _ _ _ (by simp) (by simp))

/-- The block for the lane sixteen below as the body holds it. -/
theorem tab15_apply (r : Fin 512) (l : Fin 128) : k0_pay15 x0 x1 x2 x3 x4 x5 (ix2 r l) = x5 (ix2 r l) := by
  unfold k0_pay15
  exact (tables_apply _ r l).2.2.trans (Cert.Loads.ld2 x5 _ _ _ _ _ _ _ (by simp) (by simp))

/-- The block of queries. -/
theorem out6_apply (r j : Fin 512) :
    out0_6 x0 x1 x2 x3 x4 x5 (ix3 0 r j)
      = turn (blkProj x0 x1 x2 0 (by decide) r) (fun l => x3 (ix2 r l)) (fun l => x4 (ix2 r l)) (fun l => x5 (ix2 r l)) j
          * Ideal.ofBits .f32 0x3E38AA3B#32 := by
  unfold out0_6
  frame_out
  have e (k : Fin 1024) (j : Fin 512) : View.ld x2 r0_4 (ix2 k j) = x2 (ix2 k ⟨0 + j.val, by omega⟩) :=
    Cert.Loads.ld2 x2 _ _ _ _ _ _ _ (by simp) (by simp)
  rw [pay8_apply]
  simp only [e, mod_apply, tab13_apply, tab14_apply, tab15_apply]

/-- The block of keys. -/
theorem out7_apply (r j : Fin 512) :
    out0_7 x0 x1 x2 x3 x4 x5 (ix3 0 r j)
      = turn (blkProj x0 x1 x2 512 (by decide) r) (fun l => x3 (ix2 r l)) (fun l => x4 (ix2 r l)) (fun l => x5 (ix2 r l)) j := by
  unfold out0_7
  frame_out
  have e (k : Fin 1024) (j : Fin 512) : View.ld x2 r0_6 (ix2 k j) = x2 (ix2 k ⟨512 + j.val, by omega⟩) :=
    Cert.Loads.ld2 x2 _ _ _ _ _ _ _ (by simp) (by simp)
  rw [pay10_apply]
  simp only [e, mod_apply, tab13_apply, tab14_apply, tab15_apply]

/-- The block of values. -/
theorem out8_apply (r j : Fin 512) :
    out0_8 x0 x1 x2 x3 x4 x5 (ix3 0 r j) = blkProj x0 x1 x2 1024 (by decide) r j := by
  unfold out0_8
  frame_out
  have e (k : Fin 1024) (j : Fin 512) : View.ld x2 r0_7 (ix2 k j) = x2 (ix2 k ⟨1024 + j.val, by omega⟩) :=
    Cert.Loads.ld2 x2 _ _ _ _ _ _ _ (by simp) (by simp)
  rw [pay11_apply]
  simp only [e, mod_apply]

/-- The block of the recurrence's inputs. -/
theorem out9_apply (r j : Fin 512) :
    out0_9 x0 x1 x2 x3 x4 x5 (ix3 0 r j) = blkProj x0 x1 x2 1536 (by decide) r j := by
  unfold out0_9
  frame_out
  have e (k : Fin 1024) (j : Fin 512) : View.ld x2 r0_8 (ix2 k j) = x2 (ix2 k ⟨1536 + j.val, by omega⟩) :=
    Cert.Loads.ld2 x2 _ _ _ _ _ _ _ (by simp) (by simp)
  rw [pay2_apply]
  simp only [e, mod_apply]

/-- The block of gates. -/
theorem out10_apply (r j : Fin 512) :
    out0_10 x0 x1 x2 x3 x4 x5 (ix3 0 r j) = gelu (blkProj x0 x1 x2 2048 (by decide) r j) := by
  unfold out0_10
  frame_out
  have e (k : Fin 1024) (j : Fin 512) : View.ld x2 r0_9 (ix2 k j) = x2 (ix2 k ⟨2048 + j.val, by omega⟩) :=
    Cert.Loads.ld2 x2 _ _ _ _ _ _ _ (by simp) (by simp)
  rw [pay3_apply]
  simp only [e, mod_apply]

end Cert.InprojIdeal.RefValue
-- ==== Proof.InTables.lean ====
/-
  What the host prepares for the latent input projection's kernel: the three rotation tables and the weight.
-/
module

public import proofs.«01_k».proof.Proof.Gen.InprojIdeal.Frame
public import proofs.«01_k».proof.Proof.Gen.InprojRefIdeal.Read
public import proofs.«01_k».proof.Proof.Rope

@[expose] public section

set_option maxRecDepth 16384

noncomputable section

namespace Cert.InprojIdeal.RefValue

open Cert.InprojIdeal Cert.InprojIdeal.Gen Idealize.ShloMosaic Idealize.ShloMosaic.TcCoe Cert.Rope
open Idealize.SL.Sem

variable (m : (ℓ : Loc nD τ sig) → Buf (Elt Ideal) ℓ)

/-- The row coordinate's angles of position `s`. -/
abbrev rowAngle (s : Fin 4096) (f : Fin 16) : EReal := Cert.InprojRefIdeal.Read.val_main_v17 (F := Ideal) (ix2 s f)

/-- The column coordinate's angles of position `s`. -/
abbrev colAngle (s : Fin 4096) (f : Fin 16) : EReal := Cert.InprojRefIdeal.Read.val_main_v22 (F := Ideal) (ix2 s f)

/-- The weight the region finds is the weight argument. -/
theorem weight_apply (c : Dev nD) (k : Fin 1024) (j : Fin 2560) :
    V m c main_v43 (ix2 k j) = m ((c : Thread nD τ).loc main_arg2) (ix3 0 k j) := by
  unfold V
  after_results_simp
  pointwise

/-- The zeros that fill a table's other halves. -/
abbrev zeros (s : Fin 4096) (f : Fin 16) : EReal :=
  (broadcastInDim S4096x16 ![] bcast_S_S4096x16 (constant (F := Ideal) S_ .f32 0x00000000#32) :
    (⟨S4096x16, .f32⟩ : BufTy).Contents (Elt Ideal)) (ix2 s f)

/-- They are zero. -/
theorem zeros_apply (s : Fin 4096) (f : Fin 16) : zeros s f = 0 := by
  pointwise

/-- The cosine table the region finds. -/
theorem cos_apply (c : Dev nD) (s : Fin 4096) (l : Fin 128) :
    V m c main_v31 (ix2 s l) = cosTab (rowAngle s) (colAngle s) l := by
  unfold V
  after_results_simp
  pointwise
  after_results_simp
  exact (stack_pieces ![fun f => Ideal.cos (rowAngle s f), fun f => Ideal.cos (rowAngle s f), fun f => Ideal.cos (colAngle s f),
    fun f => Ideal.cos (colAngle s f)] l).trans (cos_stack _ _ l)

/-- The table for the lane sixteen above that the region finds. -/
theorem up_apply (c : Dev nD) (s : Fin 4096) (l : Fin 128) :
    V m c main_v37 (ix2 s l) = upTab (rowAngle s) (colAngle s) l := by
  unfold V
  after_results_simp
  pointwise
  after_results_simp
  exact (stack_pieces ![fun f => -Ideal.sin (rowAngle s f), zeros s, fun f => -Ideal.sin (colAngle s f), zeros s] l).trans
    (up_stack _ _ _ (zeros_apply s) l)

/-- The table for the lane sixteen below that the region finds. -/
theorem down_apply (c : Dev nD) (s : Fin 4096) (l : Fin 128) :
    V m c main_v41 (ix2 s l) = downTab (rowAngle s) (colAngle s) l := by
  unfold V
  after_results_simp
  pointwise
  after_results_simp
  exact (stack_pieces ![zeros s, fun f => Ideal.sin (rowAngle s f), zeros s, fun f => Ideal.sin (colAngle s f)] l).trans
    (down_stack _ _ _ (zeros_apply s) l)

end Cert.InprojIdeal.RefValue
-- ==== Proof.InRef.lean ====
/-
  The latent input projection's reference, operation by operation, read as row functions of its arguments.
-/
module

public import proofs.«01_k».proof.Proof.Gen.InprojRefIdeal.Read
public import proofs.«01_k».proof.Proof.Rows
public import proofs.«01_k».proof.Proof.Rope

@[expose] public section

set_option maxRecDepth 16384

noncomputable section

namespace Cert.InprojRefIdeal.RefRead

open Cert.InprojRefIdeal Cert.InprojRefIdeal.Gen Cert.InprojRefIdeal.Read Idealize.ShloMosaic Idealize.ShloMosaic.TcCoe Cert.Rows Cert.Rope

variable (x0 : (⟨S16x4096x1024, .f32⟩ : BufTy).Contents (Elt Ideal)) (x1 : (⟨S24x6x1024, .f32⟩ : BufTy).Contents (Elt Ideal)) (x2 : (⟨S1x1024x2560, .f32⟩ : BufTy).Contents (Elt Ideal))

/-- The shift of batch element `b`. -/
theorem shift_apply (b : Fin 16) (j : Fin 1024) :
    val_main_v30 x1 (ix3 b 0 j) = x1 (ix3 ⟨b.val, by omega⟩ 0 j) := by
  pointwise [val_main_v30, val_main_v29, val_main_v28]
  congr 1; idx_ext

/-- The scale of batch element `b`. -/
theorem scale_apply (b : Fin 16) (j : Fin 1024) :
    val_main_v31 x1 (ix3 b 0 j) = x1 (ix3 ⟨b.val, by omega⟩ 1 j) := by
  pointwise [val_main_v31, val_main_v29, val_main_v28]
  congr 1; idx_ext

/-- The normalized and modulated row. -/
theorem v59_apply (b : Fin 16) (s : Fin 4096) (j : Fin 1024) :
    val_main_v59 x0 x1 (ix3 b s j)
      = modulate (fun j => x1 (ix3 ⟨b.val, by omega⟩ 0 j)) (fun j => x1 (ix3 ⟨b.val, by omega⟩ 1 j)) (fun j => x0 (ix3 b s j)) j := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_cst_1, val_main_cst_2, val_main_cst_3, val_main_cst_4, val_main_cst_5, val_main_cst_6, shift_apply, scale_apply]

/-- One of the projections, its columns starting at `o`: a row of the modulated input times the weight. -/
abbrev proj (o : ℕ) (ho : o + 512 ≤ 2560) (b : Fin 16) (s : Fin 4096) : Fin 512 → EReal :=
  dot (modulate (fun j => x1 (ix3 ⟨b.val, by omega⟩ 0 j)) (fun j => x1 (ix3 ⟨b.val, by omega⟩ 1 j)) (fun j => x0 (ix3 b s j)))
    (fun k j => x2 (ix3 0 k ⟨o + j.val, by omega⟩))

/-- The product with the whole weight. -/
theorem v61_apply (o : ℕ) (ho : o + 512 ≤ 2560) (b : Fin 16) (s : Fin 4096) (j : Fin 512) :
    val_main_v61 x0 x1 x2 (ix3 b s ⟨o + j.val, by omega⟩) = proj x0 x1 x2 o ho b s j := by
  pointwise [val_main_v61, val_main_v60, v59_apply]

/-- The query columns. -/
theorem v62_apply (b : Fin 16) (s : Fin 4096) (j : Fin 512) :
    val_main_v62 x0 x1 x2 (ix3 b s j) = proj x0 x1 x2 0 (by decide) b s j := by
  refine Eq.trans ?_ (v61_apply x0 x1 x2 0 (by decide) b s j)
  pointwise [val_main_v62]

/-- The key columns. -/
theorem v63_apply (b : Fin 16) (s : Fin 4096) (j : Fin 512) :
    val_main_v63 x0 x1 x2 (ix3 b s j) = proj x0 x1 x2 512 (by decide) b s j := by
  refine Eq.trans ?_ (v61_apply x0 x1 x2 512 (by decide) b s j)
  pointwise [val_main_v63]

/-- The value columns. -/
theorem v64_apply (b : Fin 16) (s : Fin 4096) (j : Fin 512) :
    val_main_v64 x0 x1 x2 (ix3 b s j) = proj x0 x1 x2 1024 (by decide) b s j := by
  refine Eq.trans ?_ (v61_apply x0 x1 x2 1024 (by decide) b s j)
  pointwise [val_main_v64]

/-- The recurrence's input columns. -/
theorem v65_apply (b : Fin 16) (s : Fin 4096) (j : Fin 512) :
    val_main_v65 x0 x1 x2 (ix3 b s j) = proj x0 x1 x2 1536 (by decide) b s j := by
  refine Eq.trans ?_ (v61_apply x0 x1 x2 1536 (by decide) b s j)
  pointwise [val_main_v65]

/-- The gate columns. -/
theorem v66_apply (b : Fin 16) (s : Fin 4096) (j : Fin 512) :
    val_main_v66 x0 x1 x2 (ix3 b s j) = proj x0 x1 x2 2048 (by decide) b s j := by
  refine Eq.trans ?_ (v61_apply x0 x1 x2 2048 (by decide) b s j)
  pointwise [val_main_v66]

/-- The value result. -/
theorem v125_apply (b : Fin 16) (s : Fin 4096) (j : Fin 512) :
    val_main_v125 x0 x1 x2 (ix3 b s j) = proj x0 x1 x2 1024 (by decide) b s j := by
  refine Eq.trans ?_ (v64_apply x0 x1 x2 b s j)
  pointwise [val_main_v125]

/-- The gate result: the gate columns through the activation. -/
theorem v139_apply (b : Fin 16) (s : Fin 4096) (j : Fin 512) :
    val_main_v139 x0 x1 x2 (ix3 b s j) = gelu (proj x0 x1 x2 2048 (by decide) b s j) := by
  rw [← v66_apply]
  rw [val_main_v139_apply, val_main_v138_apply, val_main_v137_apply, val_main_v136_apply, val_main_v135_apply, val_main_v134_apply,
    val_main_v133_apply, val_main_v132_apply, val_main_v131_apply, val_main_v130_apply, val_main_v129_apply, val_main_v128_apply,
    val_main_v127_apply, val_main_v126_apply, val_main_cst_8_apply, val_main_cst_9_apply, val_main_cst_10_apply, val_main_cst_11_apply]
  generalize val_main_v66 (F := Ideal) x0 x1 x2 (ix3 b s j) = y
  pointwise

end Cert.InprojRefIdeal.RefRead
-- ==== Proof.InRotate.lean ====
/-
  The latent input projection's reference: its rotated queries and keys, read as the rotation of a projected row.
-/
module

public import proofs.«01_k».proof.Proof.InRef

@[expose] public section

set_option maxRecDepth 16384

noncomputable section

namespace Cert.InprojRefIdeal.RefRead

open Cert.InprojRefIdeal Cert.InprojRefIdeal.Gen Cert.InprojRefIdeal.Read Idealize.ShloMosaic Idealize.ShloMosaic.TcCoe Cert.Rows Cert.Rope

/-- The angles of position `s`: the row coordinate's and the column coordinate's. -/
theorem v25_apply (s : Fin 4096) (a : Fin 2) (f : Fin 16) :
    val_main_v25 (F := Ideal) (ix3 s a f) = ![val_main_v17 (F := Ideal) (ix2 s f), val_main_v22 (F := Ideal) (ix2 s f)] a := by
  fin_cases a <;> pointwise [val_main_v25, val_main_v23, val_main_v24]

variable (x0 : (⟨S16x4096x1024, .f32⟩ : BufTy).Contents (Elt Ideal)) (x1 : (⟨S24x6x1024, .f32⟩ : BufTy).Contents (Elt Ideal)) (x2 : (⟨S1x1024x2560, .f32⟩ : BufTy).Contents (Elt Ideal))

/-- The first half of every pair of the queries. -/
theorem v70_apply (b : Fin 16) (s : Fin 4096) (h : Fin 4) (m a : Fin 2) (f : Fin 16) :
    val_main_v70 x0 x1 x2 (ix6 b s h m a f) = val_main_v62 x0 x1 x2 (ix3 b s ⟨h.val * 128 + m.val * 64 + a.val * 32 + f.val, by omega⟩) := by
  pointwise [val_main_v70, val_main_v69, val_main_v68, val_main_v67]

/-- The second half of every pair of the queries. -/
theorem v72_apply (b : Fin 16) (s : Fin 4096) (h : Fin 4) (m a : Fin 2) (f : Fin 16) :
    val_main_v72 x0 x1 x2 (ix6 b s h m a f) = val_main_v62 x0 x1 x2 (ix3 b s ⟨h.val * 128 + m.val * 64 + a.val * 32 + 16 + f.val, by omega⟩) := by
  pointwise [val_main_v72, val_main_v71, val_main_v68, val_main_v67]

/-- The rotated first half of the queries. -/
theorem v81_apply (b : Fin 16) (s : Fin 4096) (h : Fin 4) (m a : Fin 2) (f : Fin 16) :
    val_main_v81 x0 x1 x2 (ix6 b s h m a f)
      = val_main_v70 x0 x1 x2 (ix6 b s h m a f) * Ideal.cos (val_main_v25 (F := Ideal) (ix3 s a f))
        - val_main_v72 x0 x1 x2 (ix6 b s h m a f) * Ideal.sin (val_main_v25 (F := Ideal) (ix3 s a f)) := by
  pointwise [val_main_v81, val_main_v80, val_main_v79, val_main_v78, val_main_v77, val_main_v76, val_main_v75, val_main_v74, val_main_v73, val_main_v26, val_main_v27]

/-- The rotated second half of the queries. -/
theorem v88_apply (b : Fin 16) (s : Fin 4096) (h : Fin 4) (m a : Fin 2) (f : Fin 16) :
    val_main_v88 x0 x1 x2 (ix6 b s h m a f)
      = val_main_v72 x0 x1 x2 (ix6 b s h m a f) * Ideal.cos (val_main_v25 (F := Ideal) (ix3 s a f))
        + val_main_v70 x0 x1 x2 (ix6 b s h m a f) * Ideal.sin (val_main_v25 (F := Ideal) (ix3 s a f)) := by
  pointwise [val_main_v88, val_main_v87, val_main_v86, val_main_v85, val_main_v84, val_main_v83, val_main_v82, val_main_v74, val_main_v73, val_main_v26, val_main_v27]

/-- The two halves side by side. -/
theorem v91_apply (b : Fin 16) (s : Fin 4096) (h : Fin 4) (m a g : Fin 2) (f : Fin 16) :
    val_main_v91 x0 x1 x2 (ix7 b s h m a g f) = ![val_main_v81 x0 x1 x2 (ix6 b s h m a f), val_main_v88 x0 x1 x2 (ix6 b s h m a f)] g := by
  fin_cases g <;> pointwise [val_main_v91, val_main_v90, val_main_v89]

/-- The rotated queries, at a lane given by its coordinates. -/
theorem v91_rope (b : Fin 16) (s : Fin 4096) (j : Fin 512) (h : Fin 4) (m a g : Fin 2) (f : Fin 16) (hh : h.val = j.val / 128)
    (hm : m.val = j.val / 64 % 2) (ha : a.val = j.val % 64 / 32) (hg : g.val = j.val / 16 % 2) (hf : f.val = j.val % 16) :
    val_main_v91 x0 x1 x2 (ix7 b s h m a g f)
      = rope (fun j => val_main_v62 x0 x1 x2 (ix3 b s j)) (fun f => val_main_v17 (F := Ideal) (ix2 s f))
          (fun f => val_main_v22 (F := Ideal) (ix2 s f)) j := by
  rw [v91_apply, v81_apply, v88_apply, v70_apply, v72_apply, v25_apply,
    angle_of (fun f => val_main_v17 (F := Ideal) (ix2 s f)) (fun f => val_main_v22 (F := Ideal) (ix2 s f)) j.val a f ha hf]
  unfold rope
  by_cases hj : j.val % 32 < 16
  · obtain rfl : g = 0 := Fin.ext (by simp only [hg, Fin.val_zero]; omega)
    rw [dif_pos hj]
    show val_main_v62 x0 x1 x2 _ * _ - val_main_v62 x0 x1 x2 _ * _ = _
    rw [show (⟨h.val * 128 + m.val * 64 + a.val * 32 + f.val, by omega⟩ : Fin 512) = j from Fin.ext (by show _ = _; dsimp only; omega),
      show (⟨h.val * 128 + m.val * 64 + a.val * 32 + 16 + f.val, by omega⟩ : Fin 512) = ⟨j.val + 16, by omega⟩ from Fin.ext (by show _ = _; dsimp only; omega)]
  · obtain rfl : g = 1 := Fin.ext (by simp only [hg, Fin.val_one]; omega)
    rw [dif_neg hj]
    show val_main_v62 x0 x1 x2 _ * _ + val_main_v62 x0 x1 x2 _ * _ = _
    rw [show (⟨h.val * 128 + m.val * 64 + a.val * 32 + f.val, by omega⟩ : Fin 512) = ⟨j.val - 16, by omega⟩ from Fin.ext (by show _ = _; dsimp only; omega),
      show (⟨h.val * 128 + m.val * 64 + a.val * 32 + 16 + f.val, by omega⟩ : Fin 512) = j from Fin.ext (by show _ = _; dsimp only; omega)]

/-- The first half of every pair of the keys. -/
theorem v98_apply (b : Fin 16) (s : Fin 4096) (h : Fin 4) (m a : Fin 2) (f : Fin 16) :
    val_main_v98 x0 x1 x2 (ix6 b s h m a f) = val_main_v63 x0 x1 x2 (ix3 b s ⟨h.val * 128 + m.val * 64 + a.val * 32 + f.val, by omega⟩) := by
  pointwise [val_main_v98, val_main_v97, val_main_v96, val_main_v95]

/-- The second half of every pair of the keys. -/
theorem v100_apply (b : Fin 16) (s : Fin 4096) (h : Fin 4) (m a : Fin 2) (f : Fin 16) :
    val_main_v100 x0 x1 x2 (ix6 b s h m a f) = val_main_v63 x0 x1 x2 (ix3 b s ⟨h.val * 128 + m.val * 64 + a.val * 32 + 16 + f.val, by omega⟩) := by
  pointwise [val_main_v100, val_main_v99, val_main_v96, val_main_v95]

/-- The rotated first half of the keys. -/
theorem v109_apply (b : Fin 16) (s : Fin 4096) (h : Fin 4) (m a : Fin 2) (f : Fin 16) :
    val_main_v109 x0 x1 x2 (ix6 b s h m a f)
      = val_main_v98 x0 x1 x2 (ix6 b s h m a f) * Ideal.cos (val_main_v25 (F := Ideal) (ix3 s a f))
        - val_main_v100 x0 x1 x2 (ix6 b s h m a f) * Ideal.sin (val_main_v25 (F := Ideal) (ix3 s a f)) := by
  pointwise [val_main_v109, val_main_v108, val_main_v107, val_main_v106, val_main_v105, val_main_v104, val_main_v103, val_main_v102, val_main_v101, val_main_v26, val_main_v27]

/-- The rotated second half of the keys. -/
theorem v116_apply (b : Fin 16) (s : Fin 4096) (h : Fin 4) (m a : Fin 2) (f : Fin 16) :
    val_main_v116 x0 x1 x2 (ix6 b s h m a f)
      = val_main_v100 x0 x1 x2 (ix6 b s h m a f) * Ideal.cos (val_main_v25 (F := Ideal) (ix3 s a f))
        + val_main_v98 x0 x1 x2 (ix6 b s h m a f) * Ideal.sin (val_main_v25 (F := Ideal) (ix3 s a f)) := by
  pointwise [val_main_v116, val_main_v115, val_main_v114, val_main_v113, val_main_v112, val_main_v111, val_main_v110, val_main_v102, val_main_v101, val_main_v26, val_main_v27]

/-- The two halves side by side. -/
theorem v119_apply (b : Fin 16) (s : Fin 4096) (h : Fin 4) (m a g : Fin 2) (f : Fin 16) :
    val_main_v119 x0 x1 x2 (ix7 b s h m a g f) = ![val_main_v109 x0 x1 x2 (ix6 b s h m a f), val_main_v116 x0 x1 x2 (ix6 b s h m a f)] g := by
  fin_cases g <;> pointwise [val_main_v119, val_main_v118, val_main_v117]

/-- The rotated keys, at a lane given by its coordinates. -/
theorem v119_rope (b : Fin 16) (s : Fin 4096) (j : Fin 512) (h : Fin 4) (m a g : Fin 2) (f : Fin 16) (hh : h.val = j.val / 128)
    (hm : m.val = j.val / 64 % 2) (ha : a.val = j.val % 64 / 32) (hg : g.val = j.val / 16 % 2) (hf : f.val = j.val % 16) :
    val_main_v119 x0 x1 x2 (ix7 b s h m a g f)
      = rope (fun j => val_main_v63 x0 x1 x2 (ix3 b s j)) (fun f => val_main_v17 (F := Ideal) (ix2 s f))
          (fun f => val_main_v22 (F := Ideal) (ix2 s f)) j := by
  rw [v119_apply, v109_apply, v116_apply, v98_apply, v100_apply, v25_apply,
    angle_of (fun f => val_main_v17 (F := Ideal) (ix2 s f)) (fun f => val_main_v22 (F := Ideal) (ix2 s f)) j.val a f ha hf]
  unfold rope
  by_cases hj : j.val % 32 < 16
  · obtain rfl : g = 0 := Fin.ext (by simp only [hg, Fin.val_zero]; omega)
    rw [dif_pos hj]
    show val_main_v63 x0 x1 x2 _ * _ - val_main_v63 x0 x1 x2 _ * _ = _
    rw [show (⟨h.val * 128 + m.val * 64 + a.val * 32 + f.val, by omega⟩ : Fin 512) = j from Fin.ext (by show _ = _; dsimp only; omega),
      show (⟨h.val * 128 + m.val * 64 + a.val * 32 + 16 + f.val, by omega⟩ : Fin 512) = ⟨j.val + 16, by omega⟩ from Fin.ext (by show _ = _; dsimp only; omega)]
  · obtain rfl : g = 1 := Fin.ext (by simp only [hg, Fin.val_one]; omega)
    rw [dif_neg hj]
    show val_main_v63 x0 x1 x2 _ * _ + val_main_v63 x0 x1 x2 _ * _ = _
    rw [show (⟨h.val * 128 + m.val * 64 + a.val * 32 + f.val, by omega⟩ : Fin 512) = ⟨j.val - 16, by omega⟩ from Fin.ext (by show _ = _; dsimp only; omega),
      show (⟨h.val * 128 + m.val * 64 + a.val * 32 + 16 + f.val, by omega⟩ : Fin 512) = j from Fin.ext (by show _ = _; dsimp only; omega)]

/-- The query result: the query columns rotated, times the attention's scale. -/
theorem v122_apply (b : Fin 16) (s : Fin 4096) (j : Fin 512) :
    val_main_v122 x0 x1 x2 (ix3 b s j)
      = rope (proj x0 x1 x2 0 (by decide) b s) (fun f => val_main_v17 (F := Ideal) (ix2 s f))
          (fun f => val_main_v22 (F := Ideal) (ix2 s f)) j * Ideal.ofBits .f32 0x3E38AA3B#32 := by
  rw [show proj x0 x1 x2 0 (by decide) b s = fun j => val_main_v62 x0 x1 x2 (ix3 b s j) from funext fun j => (v62_apply x0 x1 x2 b s j).symm]
  pointwise [val_main_v122, val_main_v121, val_main_v94, val_main_v93, val_main_cst_7, val_main_v92]
  rw [v91_rope x0 x1 x2 b s j _ _ _ _ _ rfl rfl rfl (by show _ = _; dsimp only; omega) (by show _ = _; dsimp only; omega)]

/-- The key result: the key columns rotated. -/
theorem v124_apply (b : Fin 16) (s : Fin 4096) (j : Fin 512) :
    val_main_v124 x0 x1 x2 (ix3 b s j)
      = rope (proj x0 x1 x2 512 (by decide) b s) (fun f => val_main_v17 (F := Ideal) (ix2 s f))
          (fun f => val_main_v22 (F := Ideal) (ix2 s f)) j := by
  rw [show proj x0 x1 x2 512 (by decide) b s = fun j => val_main_v63 x0 x1 x2 (ix3 b s j) from funext fun j => (v63_apply x0 x1 x2 b s j).symm]
  pointwise [val_main_v124, val_main_v123, val_main_v120]
  rw [v119_rope x0 x1 x2 b s j _ _ _ _ _ rfl rfl (by show _ = _; dsimp only; omega) rfl rfl]

end Cert.InprojRefIdeal.RefRead
-- ==== Proof.InValue.lean ====
/-
  The latent input projection's five result arrays are the reference's: every grid point writes its own five blocks, and
  each row of them is the row function of the arguments' rows that the reference computes.
-/
module

public import proofs.«01_k».proof.Proof.Gen.InprojIdeal.Value
public import proofs.«01_k».proof.Proof.InKernel
public import proofs.«01_k».proof.Proof.InTables
public import proofs.«01_k».proof.Proof.InRotate
public import Idealize.ShloMosaic.Lib.Pipeline.ValueKit
public import Idealize.ShloMosaic.Lib.Claim

@[expose] public section

set_option maxRecDepth 16384

noncomputable section

namespace Cert.InprojIdeal.RefValue

open Cert.InprojIdeal Cert.InprojIdeal.Gen Idealize.ShloMosaic Idealize.ShloMosaic.TcCoe Cert.Rows Cert.Rope
open Idealize.SL.Sem
open Idealize.ShloMosaic.Pipeline (Dat)

variable (m : (ℓ : Loc nD τ sig) → Buf (Elt Ideal) ℓ)

/-- Every window's block index at every grid point. -/
theorem idx : ∀ t : Fin cfg0.N, win0_0.index t = ![(grid0.coords t 0).val, (grid0.coords t 1).val, 0]
    ∧ win0_1.index t = ![(grid0.coords t 0).val, 0, 0]
    ∧ win0_2.index t = ![0, 0] ∧ win0_3.index t = ![(grid0.coords t 1).val, 0]
    ∧ win0_4.index t = ![(grid0.coords t 1).val, 0] ∧ win0_5.index t = ![(grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0]
    ∧ win0_10.index t = ![(grid0.coords t 0).val, (grid0.coords t 1).val, 0] :=
  (by decide +kernel : ∀ t : Fin grid0.N, _)

/-- The batch element a grid point works on. -/
abbrev batchOf (t : Fin cfg0.N) : Fin 16 := ⟨(grid0.coords t 0).val, (grid0.coords t 0).isLt⟩

/-- The position that row `r` of a grid point's blocks holds. -/
abbrev posOf (t : Fin cfg0.N) (r : Fin 512) : Fin 4096 :=
  ⟨(grid0.coords t 1).val * 512 + r.val, by have h : (grid0.coords t 1).val < 8 := (grid0.coords t 1).isLt; omega⟩

/-- The weight block is the weight argument. -/
theorem weight_point (c : Dev nD) (t : Fin cfg0.N) (k : Fin 1024) (j : Fin 2560) :
    (iblk m c 2 t : Vec Ideal S1024x2560 .bf16) (ix2 k j) = m ((c : Thread nD τ).loc main_arg2) (ix3 0 k j) := by
  refine Eq.trans ?_ (weight_apply m c k j)
  blk_ext [iblk, idx t]

/-- A projection of a block's row is the projection of the arguments' row it holds. -/
theorem proj_point (c : Dev nD) (t : Fin cfg0.N) (o : ℕ) (ho : o + 512 ≤ 2560) (r : Fin 512) :
    blkProj (iblk m c 0 t) (iblk m c 1 t) (iblk m c 2 t) o ho r
      = Cert.InprojRefIdeal.RefRead.proj (m ((c : Thread nD τ).loc main_arg0)) (m ((c : Thread nD τ).loc main_arg1)) (m ((c : Thread nD τ).loc main_arg2)) o ho (batchOf t) (posOf t r) := by
  refine congrArg₂ dot (congr (congrArg₂ modulate (funext fun j => ?_) (funext fun j => ?_)) (funext fun j => ?_))
    (funext₂ fun k j => ?_)
  · blk_ext [iblk, V, idx t]
  · blk_ext [iblk, V, idx t]
  · blk_ext [iblk, V, idx t]
  · exact weight_point m c t k ⟨o + j.val, by omega⟩

/-- The cosine block holds the positions' cosine table. -/
theorem cos_point (c : Dev nD) (t : Fin cfg0.N) (r : Fin 512) :
    (fun l => (iblk m c 3 t : Vec Ideal S512x128 .f32) (ix2 r l)) = cosTab (rowAngle (posOf t r)) (colAngle (posOf t r)) := by
  funext l
  refine Eq.trans ?_ (cos_apply m c (posOf t r) l)
  blk_ext [iblk, idx t]

/-- The next block holds the positions' table for the lane sixteen above. -/
theorem up_point (c : Dev nD) (t : Fin cfg0.N) (r : Fin 512) :
    (fun l => (iblk m c 4 t : Vec Ideal S512x128 .f32) (ix2 r l)) = upTab (rowAngle (posOf t r)) (colAngle (posOf t r)) := by
  funext l
  refine Eq.trans ?_ (up_apply m c (posOf t r) l)
  blk_ext [iblk, idx t]

/-- The last block holds the positions' table for the lane sixteen below. -/
theorem down_point (c : Dev nD) (t : Fin cfg0.N) (r : Fin 512) :
    (fun l => (iblk m c 5 t : Vec Ideal S512x128 .f32) (ix2 r l)) = downTab (rowAngle (posOf t r)) (colAngle (posOf t r)) := by
  funext l
  refine Eq.trans ?_ (down_apply m c (posOf t r) l)
  blk_ext [iblk, idx t]

/-- What the body stores among the queries is the reference's value at the array index it sits at. -/
theorem point6 (c : Dev nD) (t : Fin cfg0.N) (y : S1x512x512.Idx) :
    out0_6 (iblk m c 0 t) (iblk m c 1 t) (iblk m c 2 t) (iblk m c 3 t) (iblk m c 4 t) (iblk m c 5 t) y
      = Cert.InprojRefIdeal.Read.val_main_v122 (m ((c : Thread nD τ).loc main_arg0)) (m ((c : Thread nD τ).loc main_arg1)) (m ((c : Thread nD τ).loc main_arg2))
          (((cfg0.win 6).blk t).view.emb y) := by
  idx_vars y
  obtain rfl : y0 = 0 := Subsingleton.elim _ _
  have e : ((cfg0.win 6).blk t).view.emb (ix3 (0 : Fin 1) y1 y2 : S1x512x512.Idx)
      = (ix3 (batchOf t) (posOf t y1) y2 : S16x4096x512.Idx) := by
    blk_ext [idx t]
  refine (out6_apply _ _ _ _ _ _ y1 y2).trans ?_
  refine Eq.trans ?_ ((congrArg _ e).trans (Cert.InprojRefIdeal.RefRead.v122_apply _ _ _ _ _ _)).symm
  rw [cos_point, up_point, down_point, turn_tables, proj_point]

/-- The array of queries after the run is the reference's over the kernel's arguments. -/
theorem final6 (c : Dev nD) : (dats m 0 c).arrAt 6 cfg0.N
    = Cert.InprojRefIdeal.Read.val_main_v122 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  exact point6 m c t y

/-- What the body stores among the keys is the reference's value at the array index it sits at. -/
theorem point7 (c : Dev nD) (t : Fin cfg0.N) (y : S1x512x512.Idx) :
    out0_7 (iblk m c 0 t) (iblk m c 1 t) (iblk m c 2 t) (iblk m c 3 t) (iblk m c 4 t) (iblk m c 5 t) y
      = Cert.InprojRefIdeal.Read.val_main_v124 (m ((c : Thread nD τ).loc main_arg0)) (m ((c : Thread nD τ).loc main_arg1)) (m ((c : Thread nD τ).loc main_arg2))
          (((cfg0.win 7).blk t).view.emb y) := by
  idx_vars y
  obtain rfl : y0 = 0 := Subsingleton.elim _ _
  have e : ((cfg0.win 7).blk t).view.emb (ix3 (0 : Fin 1) y1 y2 : S1x512x512.Idx)
      = (ix3 (batchOf t) (posOf t y1) y2 : S16x4096x512.Idx) := by
    blk_ext [idx t]
  refine (out7_apply _ _ _ _ _ _ y1 y2).trans ?_
  refine Eq.trans ?_ ((congrArg _ e).trans (Cert.InprojRefIdeal.RefRead.v124_apply _ _ _ _ _ _)).symm
  rw [cos_point, up_point, down_point, turn_tables, proj_point]

/-- The array of keys after the run is the reference's over the kernel's arguments. -/
theorem final7 (c : Dev nD) : (dats m 0 c).arrAt 7 cfg0.N
    = Cert.InprojRefIdeal.Read.val_main_v124 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  exact point7 m c t y

/-- What the body stores among the values is the reference's value at the array index it sits at. -/
theorem point8 (c : Dev nD) (t : Fin cfg0.N) (y : S1x512x512.Idx) :
    out0_8 (iblk m c 0 t) (iblk m c 1 t) (iblk m c 2 t) (iblk m c 3 t) (iblk m c 4 t) (iblk m c 5 t) y
      = Cert.InprojRefIdeal.Read.val_main_v125 (m ((c : Thread nD τ).loc main_arg0)) (m ((c : Thread nD τ).loc main_arg1)) (m ((c : Thread nD τ).loc main_arg2))
          (((cfg0.win 8).blk t).view.emb y) := by
  idx_vars y
  obtain rfl : y0 = 0 := Subsingleton.elim _ _
  have e : ((cfg0.win 8).blk t).view.emb (ix3 (0 : Fin 1) y1 y2 : S1x512x512.Idx)
      = (ix3 (batchOf t) (posOf t y1) y2 : S16x4096x512.Idx) := by
    blk_ext [idx t]
  refine (out8_apply _ _ _ _ _ _ y1 y2).trans ?_
  refine Eq.trans ?_ ((congrArg _ e).trans (Cert.InprojRefIdeal.RefRead.v125_apply _ _ _ _ _ _)).symm
  rw [proj_point]

/-- The array of values after the run is the reference's over the kernel's arguments. -/
theorem final8 (c : Dev nD) : (dats m 0 c).arrAt 8 cfg0.N
    = Cert.InprojRefIdeal.Read.val_main_v125 (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  exact point8 m c t y

/-- What the body stores among the inputs of the recurrence is the reference's value at the array index it sits at. -/
theorem point9 (c : Dev nD) (t : Fin cfg0.N) (y : S1x512x512.Idx) :
    out0_9 (iblk m c 0 t) (iblk m c 1 t) (iblk m c 2 t) (iblk m c 3 t) (iblk m c 4 t) (iblk m c 5 t) y
      = Cert.InprojRefIdeal.Read.val_main_v65 (m ((c : Thread nD τ).loc main_arg0)) (m ((c : Thread nD τ).loc main_arg1)) (m ((c : Thread nD τ).loc main_arg2))
          (((cfg0.win 9).blk t).view.emb y) := by
  idx_vars y
  obtain rfl : y0 = 0 := Subsingleton.elim _ _
  have e : ((cfg0.win 9).blk t).view.emb (ix3 (0 : Fin 1) y1 y2 : S1x512x512.Idx)
      = (ix3 (batchOf t) (posOf t y1) y2 : S16x4096x512.Idx) := by
    blk_ext [idx t]
  refine (out9_apply _ _ _ _ _ _ y1 y2).trans ?_
  refine Eq.trans ?_ ((congrArg _ e).trans (Cert.InprojRefIdeal.RefRead.v65_apply _ _ _ _ _ _)).symm
  rw [proj_point]

/-- The array of inputs of the recurrence after the run is the reference's over the kernel's arguments. -/
theorem final9 (c : Dev nD) : (dats m 0 c).arrAt 9 cfg0.N
    = Cert.InprojRefIdeal.Read.val_main_v65 (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  exact point9 m c t y

/-- What the body stores among the gates is the reference's value at the array index it sits at. -/
theorem point10 (c : Dev nD) (t : Fin cfg0.N) (y : S1x512x512.Idx) :
    out0_10 (iblk m c 0 t) (iblk m c 1 t) (iblk m c 2 t) (iblk m c 3 t) (iblk m c 4 t) (iblk m c 5 t) y
      = Cert.InprojRefIdeal.Read.val_main_v139 (m ((c : Thread nD τ).loc main_arg0)) (m ((c : Thread nD τ).loc main_arg1)) (m ((c : Thread nD τ).loc main_arg2))
          (((cfg0.win 10).blk t).view.emb y) := by
  idx_vars y
  obtain rfl : y0 = 0 := Subsingleton.elim _ _
  have e : ((cfg0.win 10).blk t).view.emb (ix3 (0 : Fin 1) y1 y2 : S1x512x512.Idx)
      = (ix3 (batchOf t) (posOf t y1) y2 : S16x4096x512.Idx) := by
    blk_ext [idx t]
  refine (out10_apply _ _ _ _ _ _ y1 y2).trans ?_
  refine Eq.trans ?_ ((congrArg _ e).trans (Cert.InprojRefIdeal.RefRead.v139_apply _ _ _ _ _ _)).symm
  rw [proj_point]

/-- The array of gates after the run is the reference's over the kernel's arguments. -/
theorem final10 (c : Dev nD) : (dats m 0 c).arrAt 10 cfg0.N
    = Cert.InprojRefIdeal.Read.val_main_v139 (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  exact point10 m c t y

end Cert.InprojIdeal.RefValue
-- ==== Proof.InClaims.lean ====
/-
  The latent input projection's claims: both kernel programs and the reference run and leave their arguments alone, and the kernel's
  result arrays are the reference's.
-/
module

public import proofs.«01_k».proof.Defs
public import proofs.«01_k».proof.Proof.Gen.Inproj.Frame
public import proofs.«01_k».proof.Proof.Gen.InprojRefIdeal.Run
public import proofs.«01_k».proof.Proof.InValue

@[expose] public section

set_option maxRecDepth 16384

noncomputable section

namespace Cert.InClaims

open Idealize.ShloMosaic Idealize.ShloMosaic.TcCoe Idealize.SL.Sem

/-- The latent input projection runs over machine numbers and leaves its arguments alone. -/
theorem frame_kernel : letI := Cert.Inproj.Gen.facts; Cert.quiescent_Inproj := fun m ρ _ => Cert.Inproj.Gen.frame m ρ

/-- The latent input projection runs over the extended reals and leaves its arguments alone. -/
theorem frame_ideal : letI := Cert.InprojIdeal.Gen.facts; Cert.quiescent_InprojIdeal := fun m ρ _ => Cert.InprojIdeal.Gen.frame m ρ

/-- The latent input projection's reference runs over the extended reals and leaves its arguments alone. -/
theorem frame_reference : letI := Cert.InprojRefIdeal.Gen.facts; Cert.quiescent_InprojRefIdeal := fun m ρ _ =>
  (θ_run Cert.InprojRefIdeal.defs _ _).mono
    (fun r h => ⟨fun c => (h c).2.2.2.2.2, Idealize.ShloMosaic.sem_eq_zero_of_no_sems (by decide) r.2⟩)
    (Cert.InprojRefIdeal.Value.run (F := Ideal) m ρ)

/-- From equal arguments the latent input projection and its reference end with equal results. -/
theorem value : letI := Cert.InprojIdeal.Gen.facts; letI := Cert.InprojRefIdeal.Gen.facts; Cert.algebraic_InprojIdeal_InprojRefIdeal :=
  fun m ρ m' ρ' _ hag => ⟨_, _, _, _, _, Cert.InprojIdeal.Value.run_blocks (F := Ideal) m ρ,
    (θ_run Cert.InprojRefIdeal.defs _ _).mono (fun r h c => ⟨((h c).1).trans (by
        rw [Cert.InprojIdeal.RefValue.final6 m c]
        refine (Cert.InprojRefIdeal.Read.val_main_v122_eq m' c).trans ?_
        show Cert.InprojRefIdeal.Read.val_main_v122 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) = _
        obtain ⟨h0, h1, h2⟩ := hag c
        rw [h0, h1, h2]),
      ((h c).2.1).trans (by
        rw [Cert.InprojIdeal.RefValue.final7 m c]
        refine (Cert.InprojRefIdeal.Read.val_main_v124_eq m' c).trans ?_
        show Cert.InprojRefIdeal.Read.val_main_v124 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) = _
        obtain ⟨h0, h1, h2⟩ := hag c
        rw [h0, h1, h2]),
      ((h c).2.2.1).trans (by
        rw [Cert.InprojIdeal.RefValue.final8 m c]
        refine (Cert.InprojRefIdeal.Read.val_main_v125_eq _ _ _).trans ?_
        show Cert.InprojRefIdeal.Read.val_main_v125 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) = _
        obtain ⟨h0, h1, h2⟩ := hag c
        rw [h0, h1, h2]),
      ((h c).2.2.2.1).trans (by
        rw [Cert.InprojIdeal.RefValue.final9 m c]
        refine (Cert.InprojRefIdeal.Read.val_main_v65_eq _ _ _).trans ?_
        show Cert.InprojRefIdeal.Read.val_main_v65 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) = _
        obtain ⟨h0, h1, h2⟩ := hag c
        rw [h0, h1, h2]),
      ((h c).2.2.2.2.1).trans (by
        rw [Cert.InprojIdeal.RefValue.final10 m c]
        refine (Cert.InprojRefIdeal.Read.val_main_v139_eq m' c).trans ?_
        show Cert.InprojRefIdeal.Read.val_main_v139 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) = _
        obtain ⟨h0, h1, h2⟩ := hag c
        rw [h0, h1, h2]),
      (h c).2.2.2.2.2⟩)
      (Cert.InprojRefIdeal.Value.run (F := Ideal) m' ρ')⟩

end Cert.InClaims
-- ==== Proof.CtxRef.lean ====
/-
  The context input projection's reference, operation by operation, read as row functions of its arguments.
-/
module

public import proofs.«01_k».proof.Proof.Gen.InctxRefIdeal.Read
public import proofs.«01_k».proof.Proof.Rows

@[expose] public section

set_option maxRecDepth 16384

noncomputable section

namespace Cert.InctxRefIdeal.RefRead

open Cert.InctxRefIdeal Cert.InctxRefIdeal.Gen Cert.InctxRefIdeal.Read Idealize.ShloMosaic Idealize.ShloMosaic.TcCoe Cert.Rows

variable (x0 : (⟨S16x256x1024, .f32⟩ : BufTy).Contents (Elt Ideal)) (x1 : (⟨S24x6x1024, .f32⟩ : BufTy).Contents (Elt Ideal)) (x2 : (⟨S1x1024x2560, .f32⟩ : BufTy).Contents (Elt Ideal))

/-- The shift, the same for every batch element. -/
theorem shift_apply (j : Fin 1024) : val_main_v3 x1 (ix1 j) = x1 (ix3 16 0 j) := by
  pointwise [val_main_v3, val_main_v2, val_main_v1, val_main_v0]
  congr 1; idx_ext

/-- The scale, the same for every batch element. -/
theorem scale_apply (j : Fin 1024) : val_main_v4 x1 (ix1 j) = x1 (ix3 16 1 j) := by
  pointwise [val_main_v4, val_main_v2, val_main_v1, val_main_v0]
  congr 1; idx_ext

/-- The normalized and modulated row. -/
theorem v34_apply (b : Fin 16) (s : Fin 256) (j : Fin 1024) :
    val_main_v34 x0 x1 (ix3 b s j)
      = modulate (fun j => x1 (ix3 16 0 j)) (fun j => x1 (ix3 16 1 j)) (fun j => x0 (ix3 b s j)) j := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2, val_main_cst_3, val_main_cst_4, shift_apply, scale_apply]

/-- One of the projections, its columns starting at `o`: a row of the modulated input times the weight. -/
abbrev proj (o : ℕ) (ho : o + 512 ≤ 2560) (b : Fin 16) (s : Fin 256) : Fin 512 → EReal :=
  dot (modulate (fun j => x1 (ix3 16 0 j)) (fun j => x1 (ix3 16 1 j)) (fun j => x0 (ix3 b s j)))
    (fun k j => x2 (ix3 0 k ⟨o + j.val, by omega⟩))

/-- The product with the whole weight. -/
theorem v36_apply (o : ℕ) (ho : o + 512 ≤ 2560) (b : Fin 16) (s : Fin 256) (j : Fin 512) :
    val_main_v36 x0 x1 x2 (ix3 b s ⟨o + j.val, by omega⟩) = proj x0 x1 x2 o ho b s j := by
  pointwise [val_main_v36, val_main_v35, v34_apply]

/-- The keys. -/
theorem v42_apply (b : Fin 16) (s : Fin 256) (j : Fin 512) :
    val_main_v42 x0 x1 x2 (ix3 b s j) = proj x0 x1 x2 512 (by decide) b s j := by
  refine Eq.trans ?_ (v36_apply x0 x1 x2 512 (by decide) b s j)
  pointwise [val_main_v42, val_main_v38]

/-- The values. -/
theorem v43_apply (b : Fin 16) (s : Fin 256) (j : Fin 512) :
    val_main_v43 x0 x1 x2 (ix3 b s j) = proj x0 x1 x2 1024 (by decide) b s j := by
  refine Eq.trans ?_ (v36_apply x0 x1 x2 1024 (by decide) b s j)
  pointwise [val_main_v43, val_main_v39]

/-- The recurrence's inputs. -/
theorem v40_apply (b : Fin 16) (s : Fin 256) (j : Fin 512) :
    val_main_v40 x0 x1 x2 (ix3 b s j) = proj x0 x1 x2 1536 (by decide) b s j := by
  refine Eq.trans ?_ (v36_apply x0 x1 x2 1536 (by decide) b s j)
  pointwise [val_main_v40]

end Cert.InctxRefIdeal.RefRead
-- ==== Proof.CtxValue.lean ====
/-
  The context input projection's kernel: its blocks read at an index, and its three result arrays, which are the reference's.
-/
module

public import proofs.«01_k».proof.Proof.Gen.InctxIdeal.Value
public import proofs.«01_k».proof.Proof.Loads
public import proofs.«01_k».proof.Proof.Rows
public import proofs.«01_k».proof.Proof.CtxRef
public import Idealize.ShloMosaic.Lib.Pipeline.ValueKit
public import Idealize.ShloMosaic.Lib.Claim

@[expose] public section

set_option maxRecDepth 16384

noncomputable section

namespace Cert.InctxIdeal.RefValue

open Cert.InctxIdeal Cert.InctxIdeal.Gen Idealize.ShloMosaic Idealize.ShloMosaic.TcCoe Cert.Rows
open Idealize.SL.Sem
open Idealize.ShloMosaic.Pipeline (Dat)

/-- The input row, normalized and modulated. -/
theorem pay3_apply (v0 : Vec Ideal S1x256x1024 .f32) (v2 v4 : Vec Ideal S1x1x1024 .f32) (r : Fin 256) (j : Fin 1024) :
    k0_pay3 v0 v2 v4 (ix2 r j)
      = modulate (fun j => v2 (ix3 0 0 j)) (fun j => v4 (ix3 0 0 j)) (fun j => v0 (ix3 0 r j)) j := by
  pointwise [k0_pay3]

/-- The product stored as the value. -/
theorem pay1_apply (v28 : FVec Ideal S256x1024 .bf16) (w : Vec Ideal S1024x512 .bf16) (r : Fin 256) (j : Fin 512) :
    k0_pay1 v28 w (ix3 0 r j) = dot (fun k => v28 (ix2 r k)) (fun k j => w (ix2 k j)) j := by
  pointwise [k0_pay1]

/-- The product stored as the recurrence's input. -/
theorem pay2_apply (v28 : FVec Ideal S256x1024 .bf16) (w : Vec Ideal S1024x512 .bf16) (r : Fin 256) (j : Fin 512) :
    k0_pay2 v28 w (ix3 0 r j) = dot (fun k => v28 (ix2 r k)) (fun k j => w (ix2 k j)) j := by
  pointwise [k0_pay2]

/-- The product stored as the key. -/
theorem pay4_apply (v0 : Vec Ideal S1x256x1024 .f32) (v2 v4 : Vec Ideal S1x1x1024 .f32) (w : Vec Ideal S1024x512 .bf16) (r : Fin 256) (j : Fin 512) :
    k0_pay4 v0 v2 v4 w (ix3 0 r j) = dot (fun k => k0_pay3 v0 v2 v4 (ix2 r k)) (fun k j => w (ix2 k j)) j := by
  pointwise [k0_pay4]

section Blocks

variable (x0 : Vec Ideal S1x256x1024 .f32) (x1 : Vec Ideal S1x6x1024 .f32) (x2 : Vec Ideal S1024x2560 .bf16)

/-- A row of the modulated block times 512 columns of the weight block, from column `o` on. -/
abbrev blkProj (o : ℕ) (ho : o + 512 ≤ 2560) (r : Fin 256) : Fin 512 → EReal :=
  dot (modulate (fun j => x1 (ix3 0 0 j)) (fun j => x1 (ix3 0 1 j)) (fun j => x0 (ix3 0 r j)))
    (fun k j => x2 (ix2 k ⟨o + j.val, by omega⟩))

/-- The modulated block, from the input block itself. -/
theorem mod_apply_whole (r : Fin 256) (j : Fin 1024) :
    k0_pay3 x0 (View.ld x1 r0_1) (View.ld x1 r0_2) (ix2 r j)
      = modulate (fun j => x1 (ix3 0 0 j)) (fun j => x1 (ix3 0 1 j)) (fun j => x0 (ix3 0 r j)) j := by
  rw [pay3_apply]
  have e1 (j : Fin 1024) : View.ld x1 r0_1 (ix3 0 0 j) = x1 (ix3 0 0 j) :=
    Cert.Loads.ld3 x1 _ _ _ _ _ _ _ _ _ _ (by simp) (by simp) (by simp)
  have e2 (j : Fin 1024) : View.ld x1 r0_2 (ix3 0 0 j) = x1 (ix3 0 1 j) :=
    Cert.Loads.ld3 x1 _ _ _ _ _ _ _ _ _ _ (by simp) (by simp) (by simp)
  simp only [e1, e2]

/-- The modulated block as the body holds it. -/
theorem mod_apply (r : Fin 256) (j : Fin 1024) :
    k0_pay3 (View.ld x0 r0_0) (View.ld x1 r0_1) (View.ld x1 r0_2) (ix2 r j)
      = modulate (fun j => x1 (ix3 0 0 j)) (fun j => x1 (ix3 0 1 j)) (fun j => x0 (ix3 0 r j)) j := by
  have e (j : Fin 1024) : View.ld x0 r0_0 (ix3 0 r j) = x0 (ix3 0 r j) :=
    Cert.Loads.ld3 x0 _ _ _ _ _ _ _ _ _ _ (by simp) (by simp) (by simp)
  refine Eq.trans ?_ (mod_apply_whole x0 x1 r j)
  simp only [pay3_apply, e]

/-- The block of keys. -/
theorem out3_apply (r : Fin 256) (j : Fin 512) :
    out0_3 x0 x1 x2 (ix3 0 r j) = blkProj x0 x1 x2 512 (by decide) r j := by
  unfold out0_3
  frame_out
  have e (k : Fin 1024) (j : Fin 512) : View.ld x2 r0_3 (ix2 k j) = x2 (ix2 k ⟨512 + j.val, by omega⟩) :=
    Cert.Loads.ld2 x2 _ _ _ _ _ _ _ (by simp) (by simp)
  rw [pay4_apply]
  simp only [e, mod_apply_whole]

/-- The block of values. -/
theorem out4_apply (r : Fin 256) (j : Fin 512) :
    out0_4 x0 x1 x2 (ix3 0 r j) = blkProj x0 x1 x2 1024 (by decide) r j := by
  unfold out0_4
  frame_out
  have e (k : Fin 1024) (j : Fin 512) : View.ld x2 r0_5 (ix2 k j) = x2 (ix2 k ⟨1024 + j.val, by omega⟩) :=
    Cert.Loads.ld2 x2 _ _ _ _ _ _ _ (by simp) (by simp)
  rw [k0_pay5, pay1_apply]
  simp only [e, mod_apply]

/-- The block of recurrence's inputs. -/
theorem out5_apply (r : Fin 256) (j : Fin 512) :
    out0_5 x0 x1 x2 (ix3 0 r j) = blkProj x0 x1 x2 1536 (by decide) r j := by
  unfold out0_5
  frame_out
  have e (k : Fin 1024) (j : Fin 512) : View.ld x2 r0_6 (ix2 k j) = x2 (ix2 k ⟨1536 + j.val, by omega⟩) :=
    Cert.Loads.ld2 x2 _ _ _ _ _ _ _ (by simp) (by simp)
  rw [k0_pay5, pay2_apply]
  simp only [e, mod_apply]

end Blocks

variable (m : (ℓ : Loc nD τ sig) → Buf (Elt Ideal) ℓ)

/-- Every window's block index at every grid point. -/
theorem idx : ∀ t : Fin cfg0.N, win0_0.index t = ![(grid0.coords t 0).val, 0, 0]
    ∧ win0_1.index t = ![16, 0, 0] ∧ win0_2.index t = ![0, 0]
    ∧ win0_3.index t = ![(grid0.coords t 0).val, 0, 0] ∧ win0_4.index t = ![(grid0.coords t 0).val, 0, 0]
    ∧ win0_5.index t = ![(grid0.coords t 0).val, 0, 0] :=
  (by decide +kernel : ∀ t : Fin grid0.N, _)

/-- The batch element a grid point works on. -/
abbrev batchOf (t : Fin cfg0.N) : Fin 16 := ⟨(grid0.coords t 0).val, (grid0.coords t 0).isLt⟩

/-- The weight the region finds is the weight argument. -/
theorem weight_apply (c : Dev nD) (k : Fin 1024) (j : Fin 2560) :
    V m c main_v1 (ix2 k j) = m ((c : Thread nD τ).loc main_arg2) (ix3 0 k j) := by
  unfold V
  after_results_simp
  pointwise

/-- A projection of a block's row is the projection of the arguments' row it holds. -/
theorem proj_point (c : Dev nD) (t : Fin cfg0.N) (o : ℕ) (ho : o + 512 ≤ 2560) (r : Fin 256) :
    blkProj (iblk m c 0 t) (iblk m c 1 t) (iblk m c 2 t) o ho r
      = Cert.InctxRefIdeal.RefRead.proj (m ((c : Thread nD τ).loc main_arg0)) (m ((c : Thread nD τ).loc main_arg1)) (m ((c : Thread nD τ).loc main_arg2)) o ho (batchOf t) r := by
  refine congrArg₂ dot (congr (congrArg₂ modulate (funext fun j => ?_) (funext fun j => ?_)) (funext fun j => ?_))
    (funext₂ fun k j => ?_)
  · blk_ext [iblk, V, idx t]
  · blk_ext [iblk, V, idx t]
  · blk_ext [iblk, V, idx t]
  · refine Eq.trans ?_ (weight_apply m c k ⟨o + j.val, by omega⟩)
    blk_ext [iblk, idx t]

/-- What the body stores among the keys is the reference's value at the array index it sits at. -/
theorem point3 (c : Dev nD) (t : Fin cfg0.N) (y : S1x256x512.Idx) :
    out0_3 (iblk m c 0 t) (iblk m c 1 t) (iblk m c 2 t) y
      = Cert.InctxRefIdeal.Read.val_main_v42 (m ((c : Thread nD τ).loc main_arg0)) (m ((c : Thread nD τ).loc main_arg1)) (m ((c : Thread nD τ).loc main_arg2))
          (((cfg0.win 3).blk t).view.emb y) := by
  idx_vars y
  obtain rfl : y0 = 0 := Subsingleton.elim _ _
  have e : ((cfg0.win 3).blk t).view.emb (ix3 (0 : Fin 1) y1 y2 : S1x256x512.Idx)
      = (ix3 (batchOf t) y1 y2 : S16x256x512.Idx) := by
    blk_ext [idx t]
  refine (out3_apply _ _ _ y1 y2).trans ?_
  refine Eq.trans ?_ ((congrArg _ e).trans (Cert.InctxRefIdeal.RefRead.v42_apply _ _ _ _ _ _)).symm
  rw [proj_point]

/-- The array of keys after the run is the reference's over the kernel's arguments. -/
theorem final3 (c : Dev nD) : (dats m 0 c).arrAt 3 cfg0.N
    = Cert.InctxRefIdeal.Read.val_main_v42 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point3 m c t y

/-- What the body stores among the values is the reference's value at the array index it sits at. -/
theorem point4 (c : Dev nD) (t : Fin cfg0.N) (y : S1x256x512.Idx) :
    out0_4 (iblk m c 0 t) (iblk m c 1 t) (iblk m c 2 t) y
      = Cert.InctxRefIdeal.Read.val_main_v43 (m ((c : Thread nD τ).loc main_arg0)) (m ((c : Thread nD τ).loc main_arg1)) (m ((c : Thread nD τ).loc main_arg2))
          (((cfg0.win 4).blk t).view.emb y) := by
  idx_vars y
  obtain rfl : y0 = 0 := Subsingleton.elim _ _
  have e : ((cfg0.win 4).blk t).view.emb (ix3 (0 : Fin 1) y1 y2 : S1x256x512.Idx)
      = (ix3 (batchOf t) y1 y2 : S16x256x512.Idx) := by
    blk_ext [idx t]
  refine (out4_apply _ _ _ y1 y2).trans ?_
  refine Eq.trans ?_ ((congrArg _ e).trans (Cert.InctxRefIdeal.RefRead.v43_apply _ _ _ _ _ _)).symm
  rw [proj_point]

/-- The array of values after the run is the reference's over the kernel's arguments. -/
theorem final4 (c : Dev nD) : (dats m 0 c).arrAt 4 cfg0.N
    = Cert.InctxRefIdeal.Read.val_main_v43 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

/-- What the body stores among the inputs of the recurrence is the reference's value at the array index it sits at. -/
theorem point5 (c : Dev nD) (t : Fin cfg0.N) (y : S1x256x512.Idx) :
    out0_5 (iblk m c 0 t) (iblk m c 1 t) (iblk m c 2 t) y
      = Cert.InctxRefIdeal.Read.val_main_v40 (m ((c : Thread nD τ).loc main_arg0)) (m ((c : Thread nD τ).loc main_arg1)) (m ((c : Thread nD τ).loc main_arg2))
          (((cfg0.win 5).blk t).view.emb y) := by
  idx_vars y
  obtain rfl : y0 = 0 := Subsingleton.elim _ _
  have e : ((cfg0.win 5).blk t).view.emb (ix3 (0 : Fin 1) y1 y2 : S1x256x512.Idx)
      = (ix3 (batchOf t) y1 y2 : S16x256x512.Idx) := by
    blk_ext [idx t]
  refine (out5_apply _ _ _ y1 y2).trans ?_
  refine Eq.trans ?_ ((congrArg _ e).trans (Cert.InctxRefIdeal.RefRead.v40_apply _ _ _ _ _ _)).symm
  rw [proj_point]

/-- The array of inputs of the recurrence after the run is the reference's over the kernel's arguments. -/
theorem final5 (c : Dev nD) : (dats m 0 c).arrAt 5 cfg0.N
    = Cert.InctxRefIdeal.Read.val_main_v40 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point5 m c t y

end Cert.InctxIdeal.RefValue
-- ==== Proof.CtxClaims.lean ====
/-
  The context input projection's claims: both kernel programs and the reference run and leave their arguments alone, and the kernel's
  result arrays are the reference's.
-/
module

public import proofs.«01_k».proof.Defs
public import proofs.«01_k».proof.Proof.Gen.Inctx.Frame
public import proofs.«01_k».proof.Proof.Gen.InctxRefIdeal.Run
public import proofs.«01_k».proof.Proof.CtxValue

@[expose] public section

set_option maxRecDepth 16384

noncomputable section

namespace Cert.CtxClaims

open Idealize.ShloMosaic Idealize.ShloMosaic.TcCoe Idealize.SL.Sem

/-- The context input projection runs over machine numbers and leaves its arguments alone. -/
theorem frame_kernel : letI := Cert.Inctx.Gen.facts; Cert.quiescent_Inctx := fun m ρ _ => Cert.Inctx.Gen.frame m ρ

/-- The context input projection runs over the extended reals and leaves its arguments alone. -/
theorem frame_ideal : letI := Cert.InctxIdeal.Gen.facts; Cert.quiescent_InctxIdeal := fun m ρ _ => Cert.InctxIdeal.Gen.frame m ρ

/-- The context input projection's reference runs over the extended reals and leaves its arguments alone. -/
theorem frame_reference : letI := Cert.InctxRefIdeal.Gen.facts; Cert.quiescent_InctxRefIdeal := fun m ρ _ =>
  (θ_run Cert.InctxRefIdeal.defs _ _).mono
    (fun r h => ⟨fun c => (h c).2.2.2, Idealize.ShloMosaic.sem_eq_zero_of_no_sems (by decide) r.2⟩)
    (Cert.InctxRefIdeal.Value.run (F := Ideal) m ρ)

/-- From equal arguments the context input projection and its reference end with equal results. -/
theorem value : letI := Cert.InctxIdeal.Gen.facts; letI := Cert.InctxRefIdeal.Gen.facts; Cert.algebraic_InctxIdeal_InctxRefIdeal :=
  fun m ρ m' ρ' _ hag => ⟨_, _, _, Cert.InctxIdeal.Value.run_blocks (F := Ideal) m ρ,
    (θ_run Cert.InctxRefIdeal.defs _ _).mono (fun r h c => ⟨((h c).1).trans (by
        rw [Cert.InctxIdeal.RefValue.final3 m c]
        refine (Cert.InctxRefIdeal.Read.val_main_v42_eq _ _ _).trans ?_
        show Cert.InctxRefIdeal.Read.val_main_v42 (F := Ideal) (m' ((c.tc : Thread Cert.InctxRefIdeal.nD Cert.InctxRefIdeal.τ).loc Cert.InctxRefIdeal.main_arg0)) (m' ((c.tc : Thread Cert.InctxRefIdeal.nD Cert.InctxRefIdeal.τ).loc Cert.InctxRefIdeal.main_arg1)) (m' ((c.tc : Thread Cert.InctxRefIdeal.nD Cert.InctxRefIdeal.τ).loc Cert.InctxRefIdeal.main_arg2)) = _
        obtain ⟨h0, h1, h2⟩ := hag c
        rw [h0, h1, h2]),
      ((h c).2.1).trans (by
        rw [Cert.InctxIdeal.RefValue.final4 m c]
        refine (Cert.InctxRefIdeal.Read.val_main_v43_eq _ _ _).trans ?_
        show Cert.InctxRefIdeal.Read.val_main_v43 (F := Ideal) (m' ((c.tc : Thread Cert.InctxRefIdeal.nD Cert.InctxRefIdeal.τ).loc Cert.InctxRefIdeal.main_arg0)) (m' ((c.tc : Thread Cert.InctxRefIdeal.nD Cert.InctxRefIdeal.τ).loc Cert.InctxRefIdeal.main_arg1)) (m' ((c.tc : Thread Cert.InctxRefIdeal.nD Cert.InctxRefIdeal.τ).loc Cert.InctxRefIdeal.main_arg2)) = _
        obtain ⟨h0, h1, h2⟩ := hag c
        rw [h0, h1, h2]),
      ((h c).2.2.1).trans (by
        rw [Cert.InctxIdeal.RefValue.final5 m c]
        refine (Cert.InctxRefIdeal.Read.val_main_v40_eq _ _ _).trans ?_
        show Cert.InctxRefIdeal.Read.val_main_v40 (F := Ideal) (m' ((c.tc : Thread Cert.InctxRefIdeal.nD Cert.InctxRefIdeal.τ).loc Cert.InctxRefIdeal.main_arg0)) (m' ((c.tc : Thread Cert.InctxRefIdeal.nD Cert.InctxRefIdeal.τ).loc Cert.InctxRefIdeal.main_arg1)) (m' ((c.tc : Thread Cert.InctxRefIdeal.nD Cert.InctxRefIdeal.τ).loc Cert.InctxRefIdeal.main_arg2)) = _
        obtain ⟨h0, h1, h2⟩ := hag c
        rw [h0, h1, h2]),
      (h c).2.2.2⟩)
      (Cert.InctxRefIdeal.Value.run (F := Ideal) m' ρ')⟩

end Cert.CtxClaims
-- ==== Proof.ModValue.lean ====
/-
  The modulation call's result array is the reference's: every grid point computes one of the six column blocks of the
  product of the activated rows with the weight, plus the bias.
-/
module

public import proofs.«01_k».proof.Proof.Gen.ModIdeal.Value
public import proofs.«01_k».proof.Proof.Gen.ModRefIdeal.Read
public import proofs.«01_k».proof.Proof.Rows
public import Idealize.ShloMosaic.Lib.Pipeline.ValueKit
public import Idealize.ShloMosaic.Lib.Claim

@[expose] public section

set_option maxRecDepth 16384

noncomputable section

namespace Cert.ModRefIdeal.RefRead

open Cert.ModRefIdeal Cert.ModRefIdeal.Gen Cert.ModRefIdeal.Read Idealize.ShloMosaic Idealize.ShloMosaic.TcCoe Cert.Rows

/-- The reference at an index: the activated row times the weight's column, plus the bias. -/
theorem v6_apply (x0 : (⟨S24x1024, .f32⟩ : BufTy).Contents (Elt Ideal))
    (x1 : (⟨S1x1024x6144, .f32⟩ : BufTy).Contents (Elt Ideal)) (x2 : (⟨S1x6144, .f32⟩ : BufTy).Contents (Elt Ideal))
    (r : Fin 24) (j : Fin 6144) :
    val_main_v6 x0 x1 x2 (ix2 r j) = dot (fun k => silu (x0 (ix2 r k))) (fun k j => x1 (ix3 0 k j)) j + x2 (ix2 0 j) := by
  pointwise [val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]

end Cert.ModRefIdeal.RefRead

namespace Cert.ModIdeal.RefValue

open Cert.ModIdeal Cert.ModIdeal.Gen Idealize.ShloMosaic Idealize.ShloMosaic.TcCoe Cert.Rows
open Idealize.SL.Sem
open Idealize.ShloMosaic.Pipeline (Dat)

/-- The payload at an index. -/
theorem pay1_apply (v0 : Vec Ideal S24x1024 .f32) (v9 : Vec Ideal S1024x1024 .f32) (v12 : Vec Ideal S1x1024 .f32)
    (r : Fin 24) (j : Fin 1024) :
    k0_pay1 v0 v9 v12 (ix2 r j) = dot (fun k => silu (v0 (ix2 r k))) (fun k j => v9 (ix2 k j)) j + v12 (ix2 0 j) := by
  pointwise [k0_pay1, zero_sub]

/-- The block the body stores, at an index. -/
theorem out3_apply (x0 : Vec Ideal S24x1024 .f32) (x1 : Vec Ideal S1024x1024 .f32) (x2 : Vec Ideal S1x1024 .f32)
    (r : Fin 24) (j : Fin 1024) :
    out0_3 x0 x1 x2 (ix2 r j) = dot (fun k => silu (x0 (ix2 r k))) (fun k j => x1 (ix2 k j)) j + x2 (ix2 0 j) := by
  unfold out0_3
  frame_out
  rw [pay1_apply]

variable (m : (ℓ : Loc nD τ sig) → Buf (Elt Ideal) ℓ)

/-- Every window's block index at every grid point. -/
theorem idx : ∀ t : Fin cfg0.N, win0_0.index t = ![0, 0] ∧ win0_1.index t = ![0, (grid0.coords t 0).val]
    ∧ win0_2.index t = ![0, (grid0.coords t 0).val] ∧ win0_3.index t = ![0, (grid0.coords t 0).val] :=
  (by decide +kernel : ∀ t : Fin grid0.N, _)

/-- The column of the whole array that a grid point's column `j` is. -/
abbrev colOf (t : Fin cfg0.N) (j : Fin 1024) : Fin 6144 :=
  ⟨(grid0.coords t 0).val * 1024 + j.val, by have h : (grid0.coords t 0).val < 6 := (grid0.coords t 0).isLt; omega⟩

/-- The weight the region finds is the weight argument. -/
theorem weight_apply (c : Dev nD) (k : Fin 1024) (j : Fin 6144) :
    V m c main_v0 (ix2 k j) = m ((c : Thread nD τ).loc main_arg1) (ix3 0 k j) := by
  unfold V
  after_results_simp
  pointwise

/-- The bias the region finds is the bias argument. -/
theorem bias_apply (c : Dev nD) (j : Fin 6144) :
    V m c main_v2 (ix2 0 j) = m ((c : Thread nD τ).loc main_arg2) (ix2 0 j) := by
  unfold V
  after_results_simp
  pointwise

/-- What the body stores is the reference's value at the array index it sits at. -/
theorem point3 (c : Dev nD) (t : Fin cfg0.N) (y : S24x1024.Idx) :
    out0_3 (iblk m c 0 t) (iblk m c 1 t) (iblk m c 2 t) y
      = Cert.ModRefIdeal.Read.val_main_v6 (m ((c : Thread nD τ).loc main_arg0)) (m ((c : Thread nD τ).loc main_arg1)) (m ((c : Thread nD τ).loc main_arg2))
          (((cfg0.win 3).blk t).view.emb y) := by
  idx_vars y
  have e : ((cfg0.win 3).blk t).view.emb (ix2 y0 y1 : S24x1024.Idx) = (ix2 y0 (colOf t y1) : S24x6144.Idx) := by
    blk_ext [idx t]
  refine (out3_apply _ _ _ y0 y1).trans ?_
  refine Eq.trans ?_ ((congrArg _ e).trans (Cert.ModRefIdeal.RefRead.v6_apply _ _ _ _ _)).symm
  refine congrArg₂ (· + ·) (Finset.sum_congr rfl fun k _ => congrArg₂ (· * ·) (congrArg silu ?_) ?_) ?_
  · blk_ext [iblk, V, idx t]
  · refine Eq.trans ?_ (weight_apply m c k (colOf t y1))
    blk_ext [iblk, idx t]
  · refine Eq.trans ?_ (bias_apply m c (colOf t y1))
    blk_ext [iblk, idx t]

/-- The result array after the run is the reference's over the kernel's arguments. -/
theorem final3 (c : Dev nD) : (dats m 0 c).arrAt 3 cfg0.N
    = Cert.ModRefIdeal.Read.val_main_v6 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point3 m c t y

end Cert.ModIdeal.RefValue
-- ==== Proof.ModClaims.lean ====
/-
  The modulation call's claims: both kernel programs and the reference run and leave their arguments alone, and the kernel's
  result arrays are the reference's.
-/
module

public import proofs.«01_k».proof.Defs
public import proofs.«01_k».proof.Proof.Gen.Mod.Frame
public import proofs.«01_k».proof.Proof.Gen.ModRefIdeal.Run
public import proofs.«01_k».proof.Proof.ModValue

@[expose] public section

set_option maxRecDepth 16384

noncomputable section

namespace Cert.ModClaims

open Idealize.ShloMosaic Idealize.ShloMosaic.TcCoe Idealize.SL.Sem

/-- The modulation call runs over machine numbers and leaves its arguments alone. -/
theorem frame_kernel : letI := Cert.Mod.Gen.facts; Cert.quiescent_Mod := fun m ρ _ => Cert.Mod.Gen.frame m ρ

/-- The modulation call runs over the extended reals and leaves its arguments alone. -/
theorem frame_ideal : letI := Cert.ModIdeal.Gen.facts; Cert.quiescent_ModIdeal := fun m ρ _ => Cert.ModIdeal.Gen.frame m ρ

/-- The modulation call's reference runs over the extended reals and leaves its arguments alone. -/
theorem frame_reference : letI := Cert.ModRefIdeal.Gen.facts; Cert.quiescent_ModRefIdeal := fun m ρ _ =>
  (θ_run Cert.ModRefIdeal.defs _ _).mono
    (fun r h => ⟨fun c => (h c).2, Idealize.ShloMosaic.sem_eq_zero_of_no_sems (by decide) r.2⟩)
    (Cert.ModRefIdeal.Value.run (F := Ideal) m ρ)

/-- From equal arguments the modulation call and its reference end with equal results. -/
theorem value : letI := Cert.ModIdeal.Gen.facts; letI := Cert.ModRefIdeal.Gen.facts; Cert.algebraic_ModIdeal_ModRefIdeal :=
  fun m ρ m' ρ' _ hag => ⟨_, Cert.ModIdeal.Value.run_blocks (F := Ideal) m ρ,
    (θ_run Cert.ModRefIdeal.defs _ _).mono (fun r h c => ⟨((h c).1).trans (by
        rw [Cert.ModIdeal.RefValue.final3 m c]
        refine (Cert.ModRefIdeal.Read.val_main_v6_eq _ _ _).trans ?_
        show Cert.ModRefIdeal.Read.val_main_v6 (F := Ideal) (m' ((c.tc : Thread Cert.ModRefIdeal.nD Cert.ModRefIdeal.τ).loc Cert.ModRefIdeal.main_arg0)) (m' ((c.tc : Thread Cert.ModRefIdeal.nD Cert.ModRefIdeal.τ).loc Cert.ModRefIdeal.main_arg1)) (m' ((c.tc : Thread Cert.ModRefIdeal.nD Cert.ModRefIdeal.τ).loc Cert.ModRefIdeal.main_arg2)) = _
        obtain ⟨h0, h1, h2⟩ := hag c
        rw [h0, h1, h2]),
      (h c).2⟩)
      (Cert.ModRefIdeal.Value.run (F := Ideal) m' ρ')⟩

end Cert.ModClaims
-- ==== Proof.lean ====
/-
  The claims of this directory, put together: the tail's (TailClaims.lean), the attention's
  (AttnClaims.lean), the two input projections' (InClaims.lean, CtxClaims.lean), and the modulation's (ModClaims.lean).
-/
module

public import proofs.«01_k».proof.Defs
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailIdeal.Value
public import proofs.«01_k».proof.Proof.Gen.AttnIdeal.Value
public import proofs.«01_k».proof.Proof.Gen.TailRefIdeal.Run
public import proofs.«01_k».proof.Proof.Gen.TailRefIdeal.Read
public import proofs.«01_k».proof.Proof.Gen.TailRefIdeal
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_finite_attn
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Inctx
public import proofs.«01_k».proof.Proof.Gen.Inctx.Skeleton
public import proofs.«01_k».proof.Proof.Gen.Inctx.Launch
public import proofs.«01_k».proof.Proof.Gen.Inctx.Points
public import proofs.«01_k».proof.Proof.Gen.Inctx.Frame
public import proofs.«01_k».proof.Proof.Gen.InctxIdeal
public import proofs.«01_k».proof.Proof.Gen.InctxIdeal.Skeleton
public import proofs.«01_k».proof.Proof.Gen.InctxIdeal.Launch
public import proofs.«01_k».proof.Proof.Gen.InctxIdeal.Points
public import proofs.«01_k».proof.Proof.Gen.InctxIdeal.Frame
public import proofs.«01_k».proof.Proof.Gen.InctxIdeal.Value
public import proofs.«01_k».proof.Proof.Gen.InctxRefIdeal
public import proofs.«01_k».proof.Proof.Gen.InctxRefIdeal.Run
public import proofs.«01_k».proof.Proof.Gen.InctxRefIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.TailClaims
public import proofs.«01_k».proof.Proof.AttnClaims
public import proofs.«01_k».proof.Proof.InClaims
public import proofs.«01_k».proof.Proof.CtxClaims
public import proofs.«01_k».proof.Proof.ModClaims
public import Idealize.ShloMosaic.Adequacy
public import Idealize.ShloMosaic.Init

@[expose] public section

noncomputable section

namespace Cert.Proof

open Idealize.ShloMosaic Idealize.SL.Sem

/-- Every claim holds. -/
theorem claim : Cert.Claim := ⟨Cert.Tail.Gen.facts, Cert.TailIdeal.Gen.facts, Cert.TailRefIdeal.Gen.facts, Cert.Attn.Gen.facts, Cert.AttnIdeal.Gen.facts,
  Cert.AttnRefIdeal.Gen.facts, Cert.Inproj.Gen.facts, Cert.InprojIdeal.Gen.facts, Cert.InprojRefIdeal.Gen.facts,
  Cert.Inctx.Gen.facts, Cert.InctxIdeal.Gen.facts, Cert.InctxRefIdeal.Gen.facts,
  Cert.Mod.Gen.facts, Cert.ModIdeal.Gen.facts, Cert.ModRefIdeal.Gen.facts, Cert.Pre_finite_attn.Gen.facts,
  Cert.TailClaims.frame_kernel, Cert.TailClaims.frame_ideal, Cert.TailClaims.frame_reference,
  Cert.AttnClaims.frame_kernel, Cert.AttnClaims.frame_ideal, Cert.AttnClaims.frame_ideal_finite,
  Cert.AttnClaims.frame_reference, Cert.AttnClaims.frame_reference_finite,
  Cert.InClaims.frame_kernel, Cert.InClaims.frame_ideal, Cert.InClaims.frame_reference,
  Cert.CtxClaims.frame_kernel, Cert.CtxClaims.frame_ideal, Cert.CtxClaims.frame_reference,
  Cert.ModClaims.frame_kernel, Cert.ModClaims.frame_ideal, Cert.ModClaims.frame_reference,
  trivial, Cert.TailClaims.value, trivial, Cert.AttnClaims.value, trivial, Cert.InClaims.value,
  trivial, Cert.CtxClaims.value, trivial, Cert.ModClaims.value⟩

end Cert.Proof

end
